-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S1024x1024 : Shape := ⟨2, ![1024, 1024]⟩
abbrev S4x1024x1024 : Shape := ⟨3, ![4, 1024, 1024]⟩
abbrev S3x1024x1024 : Shape := ⟨3, ![3, 1024, 1024]⟩
abbrev S2x1024x2048 : Shape := ⟨3, ![2, 1024, 2048]⟩
abbrev S4x8x128 : Shape := ⟨3, ![4, 8, 128]⟩
abbrev S3 : Shape := ⟨1, ![3]⟩
abbrev S2 : Shape := ⟨1, ![2]⟩
abbrev S_ : Shape := ⟨0, ![]⟩
abbrev S1 : Shape := ⟨1, ![1]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1024x8192, .bf16⟩
  | .local _ .vmem, ⟨0, _⟩ => ⟨S1024x8192, .bf16⟩
  | .local _ .vmem, ⟨1, _⟩ => ⟨S1024x1024, .f32⟩
  | .local _ .vmem, ⟨2, _⟩ => ⟨S4x1024x1024, .bf16⟩
  | .local _ .vmem, ⟨3, _⟩ => ⟨S3x1024x1024, .bf16⟩
  | .local _ .vmem, ⟨4, _⟩ => ⟨S2x1024x2048, .f32⟩
  | .local _ .vmem, ⟨5, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_22 : BitVec 32 := 1024#32
  let v40 : BitVec 32 := Scalar.muli v2 c1024_i32_22
  let c0_i32_23 : BitVec 32 := 0#32
  ![v40.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  let c0_i32_28 : BitVec 32 := 0#32
  ![v3.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  let c2048_i32 : BitVec 32 := 2048#32
  ![v3.toNat, 2048]
def k0_dev1 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v53 : BitVec 32 := Scalar.addi v2 c1_i32_33
  let c4_i32_34 : BitVec 32 := 4#32
  let c0_i32_35 : BitVec 32 := 0#32
  let v54 : BitVec 1 := Scalar.cmpi .eq c4_i32_34 c0_i32_35
  let c1_i32_36 : BitVec 32 := 1#32
  let v55 : BitVec 32 := Scalar.select v54 c1_i32_36 c4_i32_34
  let v56 : BitVec 32 := Scalar.remsi v53 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let c1_i32_41 : BitVec 32 := 1#32
  let v64 : BitVec 32 := Scalar.muli v63 c1_i32_41
  let v65 : BitVec 32 := Scalar.addi c0_i32_42 v64
  v65.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v66 : BitVec 32 := Scalar.addi v2 c2_i32_43
  let c4_i32_44 : BitVec 32 := 4#32
  let c0_i32_45 : BitVec 32 := 0#32
  let v67 : BitVec 1 := Scalar.cmpi .eq c4_i32_44 c0_i32_45
  let c1_i32_46 : BitVec 32 := 1#32
  let v68 : BitVec 32 := Scalar.select v67 c1_i32_46 c4_i32_44
  let v69 : BitVec 32 := Scalar.remsi v66 v68
  let c0_i32_48 : BitVec 32 := 0#32
  let v71 : BitVec 1 := Scalar.cmpi .slt v69 c0_i32_48
  let c0_i32_49 : BitVec 32 := 0#32
  let v72 : BitVec 1 := Scalar.cmpi .slt v68 c0_i32_49
  let v73 : BitVec 1 := Scalar.xori v71 v72
  let c0_i32_47 : BitVec 32 := 0#32
  let v70 : BitVec 1 := Scalar.cmpi .ne v69 c0_i32_47
  let v74 : BitVec 1 := Scalar.andi v73 v70
  let v75 : BitVec 32 := Scalar.addi v69 v68
  let v76 : BitVec 32 := Scalar.select v74 v75 v69
  let c1_i32_51 : BitVec 32 := 1#32
  let v77 : BitVec 32 := Scalar.muli v76 c1_i32_51
  let v78 : BitVec 32 := Scalar.addi c0_i32_52 v77
  v78.toNat
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v79 : BitVec 32 := Scalar.addi v2 c3_i32
  let c4_i32_53 : BitVec 32 := 4#32
  let c0_i32_54 : BitVec 32 := 0#32
  let v80 : BitVec 1 := Scalar.cmpi .eq c4_i32_53 c0_i32_54
  let c1_i32_55 : BitVec 32 := 1#32
  let v81 : BitVec 32 := Scalar.select v80 c1_i32_55 c4_i32_53
  let v82 : BitVec 32 := Scalar.remsi v79 v81
  let c0_i32_57 : BitVec 32 := 0#32
  let v84 : BitVec 1 := Scalar.cmpi .slt v82 c0_i32_57
  let c0_i32_58 : BitVec 32 := 0#32
  let v85 : BitVec 1 := Scalar.cmpi .slt v81 c0_i32_58
  let v86 : BitVec 1 := Scalar.xori v84 v85
  let c0_i32_56 : BitVec 32 := 0#32
  let v83 : BitVec 1 := Scalar.cmpi .ne v82 c0_i32_56
  let v87 : BitVec 1 := Scalar.andi v86 v83
  let v88 : BitVec 32 := Scalar.addi v82 v81
  let v89 : BitVec 32 := Scalar.select v87 v88 v82
  let c1_i32_60 : BitVec 32 := 1#32
  let v90 : BitVec 32 := Scalar.muli v89 c1_i32_60
  let v91 : BitVec 32 := Scalar.addi c0_i32_61 v90
  v91.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_67 : BitVec 32 := 1#32
  let v98 : BitVec 32 := Scalar.addi v2 c1_i32_67
  let c4_i32_68 : BitVec 32 := 4#32
  let c0_i32_69 : BitVec 32 := 0#32
  let v99 : BitVec 1 := Scalar.cmpi .eq c4_i32_68 c0_i32_69
  let c1_i32_70 : BitVec 32 := 1#32
  let v100 : BitVec 32 := Scalar.select v99 c1_i32_70 c4_i32_68
  let v101 : BitVec 32 := Scalar.remsi v98 v100
  let c0_i32_72 : BitVec 32 := 0#32
  let v103 : BitVec 1 := Scalar.cmpi .slt v101 c0_i32_72
  let c0_i32_73 : BitVec 32 := 0#32
  let v104 : BitVec 1 := Scalar.cmpi .slt v100 c0_i32_73
  let v105 : BitVec 1 := Scalar.xori v103 v104
  let c0_i32_71 : BitVec 32 := 0#32
  let v102 : BitVec 1 := Scalar.cmpi .ne v101 c0_i32_71
  let v106 : BitVec 1 := Scalar.andi v105 v102
  let v107 : BitVec 32 := Scalar.addi v101 v100
  let v108 : BitVec 32 := Scalar.select v106 v107 v101
  let c1024_i32_74 : BitVec 32 := 1024#32
  let v109 : BitVec 32 := Scalar.muli v108 c1024_i32_74
  let c0_i32_75 : BitVec 32 := 0#32
  ![v109.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  let c4096_i32 : BitVec 32 := 4096#32
  ![v3.toNat, 4096]
def k0_off6 (d0 : Dev nD) (c0_i32_100 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_99 : BitVec 32 := 2#32
  let v135 : BitVec 32 := Scalar.addi v2 c2_i32_99
  let v136 : BitVec 32 := Scalar.addi v135 c0_i32_100
  let c4_i32_101 : BitVec 32 := 4#32
  let c0_i32_102 : BitVec 32 := 0#32
  let v137 : BitVec 1 := Scalar.cmpi .eq c4_i32_101 c0_i32_102
  let c1_i32_103 : BitVec 32 := 1#32
  let v138 : BitVec 32 := Scalar.select v137 c1_i32_103 c4_i32_101
  let v139 : BitVec 32 := Scalar.remsi v136 v138
  let c0_i32_105 : BitVec 32 := 0#32
  let v141 : BitVec 1 := Scalar.cmpi .slt v139 c0_i32_105
  let c0_i32_106 : BitVec 32 := 0#32
  let v142 : BitVec 1 := Scalar.cmpi .slt v138 c0_i32_106
  let v143 : BitVec 1 := Scalar.xori v141 v142
  let c0_i32_104 : BitVec 32 := 0#32
  let v140 : BitVec 1 := Scalar.cmpi .ne v139 c0_i32_104
  let v144 : BitVec 1 := Scalar.andi v143 v140
  let v145 : BitVec 32 := Scalar.addi v139 v138
  let v146 : BitVec 32 := Scalar.select v144 v145 v139
  let c1024_i32_107 : BitVec 32 := 1024#32
  let v147 : BitVec 32 := Scalar.muli v146 c1024_i32_107
  let c0_i32_108 : BitVec 32 := 0#32
  ![v147.toNat, 0]
def k0_dev4 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_109 : BitVec 32 := 1#32
  let v149 : BitVec 32 := Scalar.addi v2 c1_i32_109
  let c4_i32_110 : BitVec 32 := 4#32
  let c0_i32_111 : BitVec 32 := 0#32
  let v150 : BitVec 1 := Scalar.cmpi .eq c4_i32_110 c0_i32_111
  let c1_i32_112 : BitVec 32 := 1#32
  let v151 : BitVec 32 := Scalar.select v150 c1_i32_112 c4_i32_110
  let v152 : BitVec 32 := Scalar.remsi v149 v151
  let c0_i32_114 : BitVec 32 := 0#32
  let v154 : BitVec 1 := Scalar.cmpi .slt v152 c0_i32_114
  let c0_i32_115 : BitVec 32 := 0#32
  let v155 : BitVec 1 := Scalar.cmpi .slt v151 c0_i32_115
  let v156 : BitVec 1 := Scalar.xori v154 v155
  let c0_i32_113 : BitVec 32 := 0#32
  let v153 : BitVec 1 := Scalar.cmpi .ne v152 c0_i32_113
  let v157 : BitVec 1 := Scalar.andi v156 v153
  let v158 : BitVec 32 := Scalar.addi v152 v151
  let v159 : BitVec 32 := Scalar.select v157 v158 v152
  let c1_i32_120 : BitVec 32 := 1#32
  let v160 : BitVec 32 := Scalar.muli v159 c1_i32_120
  let v161 : BitVec 32 := Scalar.addi c0_i32_121 v160
  v161.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  let c6144_i32 : BitVec 32 := 6144#32
  ![v3.toNat, 6144]
def k0_dev5 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_155 : BitVec 32 := 2#32
  let v205 : BitVec 32 := Scalar.addi v2 c2_i32_155
  let c4_i32_156 : BitVec 32 := 4#32
  let c0_i32_157 : BitVec 32 := 0#32
  let v206 : BitVec 1 := Scalar.cmpi .eq c4_i32_156 c0_i32_157
  let c1_i32_158 : BitVec 32 := 1#32
  let v207 : BitVec 32 := Scalar.select v206 c1_i32_158 c4_i32_156
  let v208 : BitVec 32 := Scalar.remsi v205 v207
  let c0_i32_160 : BitVec 32 := 0#32
  let v210 : BitVec 1 := Scalar.cmpi .slt v208 c0_i32_160
  let c0_i32_161 : BitVec 32 := 0#32
  let v211 : BitVec 1 := Scalar.cmpi .slt v207 c0_i32_161
  let v212 : BitVec 1 := Scalar.xori v210 v211
  let c0_i32_159 : BitVec 32 := 0#32
  let v209 : BitVec 1 := Scalar.cmpi .ne v208 c0_i32_159
  let v213 : BitVec 1 := Scalar.andi v212 v209
  let v214 : BitVec 32 := Scalar.addi v208 v207
  let v215 : BitVec 32 := Scalar.select v213 v214 v208
  let c1_i32_166 : BitVec 32 := 1#32
  let v216 : BitVec 32 := Scalar.muli v215 c1_i32_166
  let v217 : BitVec 32 := Scalar.addi c0_i32_167 v216
  v217.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.subi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1024_i32_6 : BitVec 32 := 1024#32
  let v15 : BitVec 32 := Scalar.muli v14 c1024_i32_6
  let c0_i32_186 : BitVec 32 := 0#32
  ![v15.toNat, 0]
def k0_dev6 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_192 : BitVec 32 := 3#32
  let v247 : BitVec 32 := Scalar.addi v2 c3_i32_192
  let c4_i32_193 : BitVec 32 := 4#32
  let c0_i32_194 : BitVec 32 := 0#32
  let v248 : BitVec 1 := Scalar.cmpi .eq c4_i32_193 c0_i32_194
  let c1_i32_195 : BitVec 32 := 1#32
  let v249 : BitVec 32 := Scalar.select v248 c1_i32_195 c4_i32_193
  let v250 : BitVec 32 := Scalar.remsi v247 v249
  let c0_i32_197 : BitVec 32 := 0#32
  let v252 : BitVec 1 := Scalar.cmpi .slt v250 c0_i32_197
  let c0_i32_198 : BitVec 32 := 0#32
  let v253 : BitVec 1 := Scalar.cmpi .slt v249 c0_i32_198
  let v254 : BitVec 1 := Scalar.xori v252 v253
  let c0_i32_196 : BitVec 32 := 0#32
  let v251 : BitVec 1 := Scalar.cmpi .ne v250 c0_i32_196
  let v255 : BitVec 1 := Scalar.andi v254 v251
  let v256 : BitVec 32 := Scalar.addi v250 v249
  let v257 : BitVec 32 := Scalar.select v255 v256 v250
  let c1_i32_203 : BitVec 32 := 1#32
  let v258 : BitVec 32 := Scalar.muli v257 c1_i32_203
  let v259 : BitVec 32 := Scalar.addi c0_i32_204 v258
  v259.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.subi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1024_i32_6 : BitVec 32 := 1024#32
  let v15 : BitVec 32 := Scalar.muli v14 c1024_i32_6
  let c2048_i32_236 : BitVec 32 := 2048#32
  ![v15.toNat, 2048]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.subi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1024_i32_6 : BitVec 32 := 1024#32
  let v15 : BitVec 32 := Scalar.muli v14 c1024_i32_6
  let c4096_i32_254 : BitVec 32 := 4096#32
  ![v15.toNat, 4096]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.subi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1024_i32_6 : BitVec 32 := 1024#32
  let v15 : BitVec 32 := Scalar.muli v14 c1024_i32_6
  let c6144_i32_272 : BitVec 32 := 6144#32
  ![v15.toNat, 6144]
def k0_off12 (d0 : Dev nD) (c1_i32_7 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_7
  let c4_i32_8 : BitVec 32 := 4#32
  let c0_i32_9 : BitVec 32 := 0#32
  let v17 : BitVec 1 := Scalar.cmpi .eq c4_i32_8 c0_i32_9
  let c1_i32_10 : BitVec 32 := 1#32
  let v18 : BitVec 32 := Scalar.select v17 c1_i32_10 c4_i32_8
  let v19 : BitVec 32 := Scalar.remsi v16 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c1024_i32_14 : BitVec 32 := 1024#32
  let v27 : BitVec 32 := Scalar.muli v26 c1024_i32_14
  let c0_i32_290 : BitVec 32 := 0#32
  ![v27.toNat, 0]
def k0_off13 (d0 : Dev nD) (c1_i32_7 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_7
  let c4_i32_8 : BitVec 32 := 4#32
  let c0_i32_9 : BitVec 32 := 0#32
  let v17 : BitVec 1 := Scalar.cmpi .eq c4_i32_8 c0_i32_9
  let c1_i32_10 : BitVec 32 := 1#32
  let v18 : BitVec 32 := Scalar.select v17 c1_i32_10 c4_i32_8
  let v19 : BitVec 32 := Scalar.remsi v16 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c1024_i32_14 : BitVec 32 := 1024#32
  let v27 : BitVec 32 := Scalar.muli v26 c1024_i32_14
  let c2048_i32_321 : BitVec 32 := 2048#32
  ![v27.toNat, 2048]
def k0_off14 (d0 : Dev nD) (c1_i32_7 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_7
  let c4_i32_8 : BitVec 32 := 4#32
  let c0_i32_9 : BitVec 32 := 0#32
  let v17 : BitVec 1 := Scalar.cmpi .eq c4_i32_8 c0_i32_9
  let c1_i32_10 : BitVec 32 := 1#32
  let v18 : BitVec 32 := Scalar.select v17 c1_i32_10 c4_i32_8
  let v19 : BitVec 32 := Scalar.remsi v16 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c1024_i32_14 : BitVec 32 := 1024#32
  let v27 : BitVec 32 := Scalar.muli v26 c1024_i32_14
  let c4096_i32_339 : BitVec 32 := 4096#32
  ![v27.toNat, 4096]
def k0_off15 (d0 : Dev nD) (c1_i32_7 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_7
  let c4_i32_8 : BitVec 32 := 4#32
  let c0_i32_9 : BitVec 32 := 0#32
  let v17 : BitVec 1 := Scalar.cmpi .eq c4_i32_8 c0_i32_9
  let c1_i32_10 : BitVec 32 := 1#32
  let v18 : BitVec 32 := Scalar.select v17 c1_i32_10 c4_i32_8
  let v19 : BitVec 32 := Scalar.remsi v16 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c1024_i32_14 : BitVec 32 := 1024#32
  let v27 : BitVec 32 := Scalar.muli v26 c1024_i32_14
  let c6144_i32_357 : BitVec 32 := 6144#32
  ![v27.toNat, 6144]
def k0_dev7 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_504 : BitVec 32 := 1#32
  let v580 : BitVec 32 := Scalar.addi v2 c1_i32_504
  let c4_i32_505 : BitVec 32 := 4#32
  let c0_i32_506 : BitVec 32 := 0#32
  let v581 : BitVec 1 := Scalar.cmpi .eq c4_i32_505 c0_i32_506
  let c1_i32_507 : BitVec 32 := 1#32
  let v582 : BitVec 32 := Scalar.select v581 c1_i32_507 c4_i32_505
  let v583 : BitVec 32 := Scalar.remsi v580 v582
  let c0_i32_509 : BitVec 32 := 0#32
  let v585 : BitVec 1 := Scalar.cmpi .slt v583 c0_i32_509
  let c0_i32_510 : BitVec 32 := 0#32
  let v586 : BitVec 1 := Scalar.cmpi .slt v582 c0_i32_510
  let v587 : BitVec 1 := Scalar.xori v585 v586
  let c0_i32_508 : BitVec 32 := 0#32
  let v584 : BitVec 1 := Scalar.cmpi .ne v583 c0_i32_508
  let v588 : BitVec 1 := Scalar.andi v587 v584
  let v589 : BitVec 32 := Scalar.addi v583 v582
  let v590 : BitVec 32 := Scalar.select v588 v589 v583
  let c1_i32_515 : BitVec 32 := 1#32
  let v591 : BitVec 32 := Scalar.muli v590 c1_i32_515
  let v592 : BitVec 32 := Scalar.addi c0_i32_516 v591
  v592.toNat
def k0_dev8 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_521 : BitVec 32 := 2#32
  let v601 : BitVec 32 := Scalar.addi v2 c2_i32_521
  let c4_i32_522 : BitVec 32 := 4#32
  let c0_i32_523 : BitVec 32 := 0#32
  let v602 : BitVec 1 := Scalar.cmpi .eq c4_i32_522 c0_i32_523
  let c1_i32_524 : BitVec 32 := 1#32
  let v603 : BitVec 32 := Scalar.select v602 c1_i32_524 c4_i32_522
  let v604 : BitVec 32 := Scalar.remsi v601 v603
  let c0_i32_526 : BitVec 32 := 0#32
  let v606 : BitVec 1 := Scalar.cmpi .slt v604 c0_i32_526
  let c0_i32_527 : BitVec 32 := 0#32
  let v607 : BitVec 1 := Scalar.cmpi .slt v603 c0_i32_527
  let v608 : BitVec 1 := Scalar.xori v606 v607
  let c0_i32_525 : BitVec 32 := 0#32
  let v605 : BitVec 1 := Scalar.cmpi .ne v604 c0_i32_525
  let v609 : BitVec 1 := Scalar.andi v608 v605
  let v610 : BitVec 32 := Scalar.addi v604 v603
  let v611 : BitVec 32 := Scalar.select v609 v610 v604
  let c1_i32_532 : BitVec 32 := 1#32
  let v612 : BitVec 32 := Scalar.muli v611 c1_i32_532
  let v613 : BitVec 32 := Scalar.addi c0_i32_533 v612
  v613.toNat
def k0_dev9 (d0 : Dev nD) : Nat :=
  let c0_i32_550 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_538 : BitVec 32 := 3#32
  let v622 : BitVec 32 := Scalar.addi v2 c3_i32_538
  let c4_i32_539 : BitVec 32 := 4#32
  let c0_i32_540 : BitVec 32 := 0#32
  let v623 : BitVec 1 := Scalar.cmpi .eq c4_i32_539 c0_i32_540
  let c1_i32_541 : BitVec 32 := 1#32
  let v624 : BitVec 32 := Scalar.select v623 c1_i32_541 c4_i32_539
  let v625 : BitVec 32 := Scalar.remsi v622 v624
  let c0_i32_543 : BitVec 32 := 0#32
  let v627 : BitVec 1 := Scalar.cmpi .slt v625 c0_i32_543
  let c0_i32_544 : BitVec 32 := 0#32
  let v628 : BitVec 1 := Scalar.cmpi .slt v624 c0_i32_544
  let v629 : BitVec 1 := Scalar.xori v627 v628
  let c0_i32_542 : BitVec 32 := 0#32
  let v626 : BitVec 1 := Scalar.cmpi .ne v625 c0_i32_542
  let v630 : BitVec 1 := Scalar.andi v629 v626
  let v631 : BitVec 32 := Scalar.addi v625 v624
  let v632 : BitVec 32 := Scalar.select v630 v631 v625
  let c1_i32_549 : BitVec 32 := 1#32
  let v633 : BitVec 32 := Scalar.muli v632 c1_i32_549
  let v634 : BitVec 32 := Scalar.addi c0_i32_550 v633
  v634.toNat
abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 8
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S4096x8192, .bf16⟩
  | .local _ .vmem, ⟨0, _⟩ => ⟨S4096x8192, .f32⟩
  | .local _ .vmem, ⟨1, _⟩ => ⟨S1x1, .f32⟩
  | .local _ .vmem, ⟨2, _⟩ => ⟨S4096x8192, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Common.lean ====
/-
  The protocol of the kernel: the memory it names, its semaphore cells, the devices in turn, and what every value on the
  way is. Nothing here runs the kernel.

  Device `c` works on its block `c` of the rows of the result. It keeps the columns `1024 c …` of `x` and all of `w`, so it
  sends each other device `j` the rows block `j` of its columns (rounded to `bf16`), and receives from each other device
  the block it needs. With four devices there are three offsets; slot `s` (0, 1, 2) of the receive scratch of a device `j` is
  written by the device `s + 1` before it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.VecWindow
public import Idealize.ShloMosaic.Lib.Memref

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The devices in turn -/

/-- The device `k` places after `c`. -/
def rel (c : Dev nD) (k : ℕ) : Dev nD := ⟨(c.val + k) % 4, Nat.mod_lt _ (by decide)⟩

theorem rel_rel (c : Dev nD) (a b : ℕ) : rel (rel c a) b = rel c (a + b) := by
  apply Fin.ext; show ((c.val + a) % 4 + b) % 4 = (c.val + (a + b)) % 4; omega
theorem rel_four (c : Dev nD) : rel c 4 = c := by
  have := c.isLt; apply Fin.ext; show (c.val + 4) % 4 = c.val; simp only [nD] at this; omega
theorem rel_zero (c : Dev nD) : rel c 0 = c := by
  have := c.isLt; apply Fin.ext; show (c.val + 0) % 4 = c.val; simp only [nD] at this; omega

theorem dev1_eq (c : Dev nD) : (⟨k0_dev1 c, k0_dev1_lt c⟩ : Dev nD) = rel c 1 := by revert c; decide
theorem dev2_eq (c : Dev nD) : (⟨k0_dev2 c, k0_dev2_lt c⟩ : Dev nD) = rel c 2 := by revert c; decide
theorem dev3_eq (c : Dev nD) : (⟨k0_dev3 c, k0_dev3_lt c⟩ : Dev nD) = rel c 3 := by revert c; decide
theorem dev4_eq (c : Dev nD) : (⟨k0_dev4 c, k0_dev4_lt c⟩ : Dev nD) = rel c 1 := by revert c; decide
theorem dev5_eq (c : Dev nD) : (⟨k0_dev5 c, k0_dev5_lt c⟩ : Dev nD) = rel c 2 := by revert c; decide
theorem dev6_eq (c : Dev nD) : (⟨k0_dev6 c, k0_dev6_lt c⟩ : Dev nD) = rel c 3 := by revert c; decide
theorem dev7_eq (c : Dev nD) : (⟨k0_dev7 c, k0_dev7_lt c⟩ : Dev nD) = rel c 1 := by revert c; decide
theorem dev8_eq (c : Dev nD) : (⟨k0_dev8 c, k0_dev8_lt c⟩ : Dev nD) = rel c 2 := by revert c; decide
theorem dev9_eq (c : Dev nD) : (⟨k0_dev9 c, k0_dev9_lt c⟩ : Dev nD) = rel c 3 := by revert c; decide

theorem off1_eq (c : Dev nD) : k0_off1 c = ![1024 * c.val, 0] := by revert c; decide
theorem off4_eq (c : Dev nD) : k0_off4 c = ![1024 * (rel c 1).val, 0] := by revert c; decide
theorem off6_eq0 (c : Dev nD) : k0_off6 c 0#32 = ![1024 * (rel c 2).val, 0] := by revert c; decide
theorem off6_eq1 (c : Dev nD) : k0_off6 c 1#32 = ![1024 * (rel c 3).val, 0] := by revert c; decide
theorem off2_eq (c : Dev nD) : k0_off2 c = ![1024 * c.val, 0] := by revert c; decide
theorem off3_eq (c : Dev nD) : k0_off3 c = ![1024 * c.val, 2048] := by revert c; decide
theorem off5_eq (c : Dev nD) : k0_off5 c = ![1024 * c.val, 4096] := by revert c; decide
theorem off7_eq (c : Dev nD) : k0_off7 c = ![1024 * c.val, 6144] := by revert c; decide
theorem off8_eq (c : Dev nD) : k0_off8 c = ![1024 * (rel c 3).val, 0] := by revert c; decide
theorem off9_eq (c : Dev nD) : k0_off9 c = ![1024 * (rel c 3).val, 2048] := by revert c; decide
theorem off10_eq (c : Dev nD) : k0_off10 c = ![1024 * (rel c 3).val, 4096] := by revert c; decide
theorem off11_eq (c : Dev nD) : k0_off11 c = ![1024 * (rel c 3).val, 6144] := by revert c; decide
theorem off12_eq1 (c : Dev nD) : k0_off12 c 1#32 = ![1024 * (rel c 1).val, 0] := by revert c; decide
theorem off13_eq1 (c : Dev nD) : k0_off13 c 1#32 = ![1024 * (rel c 1).val, 2048] := by revert c; decide
theorem off14_eq1 (c : Dev nD) : k0_off14 c 1#32 = ![1024 * (rel c 1).val, 4096] := by revert c; decide
theorem off15_eq1 (c : Dev nD) : k0_off15 c 1#32 = ![1024 * (rel c 1).val, 6144] := by revert c; decide
theorem off12_eq2 (c : Dev nD) : k0_off12 c 2#32 = ![1024 * (rel c 2).val, 0] := by revert c; decide
theorem off13_eq2 (c : Dev nD) : k0_off13 c 2#32 = ![1024 * (rel c 2).val, 2048] := by revert c; decide
theorem off14_eq2 (c : Dev nD) : k0_off14 c 2#32 = ![1024 * (rel c 2).val, 4096] := by revert c; decide
theorem off15_eq2 (c : Dev nD) : k0_off15 c 2#32 = ![1024 * (rel c 2).val, 6144] := by revert c; decide

end Cert.KernelIdeal.Run

end
-- ==== Proof.Sched.lean ====
/-
  The schedule: each cell's duties, amounts and what each landing hands over, with its contents; what each device owes; the
  levels. Round 0 is the only round of every cell.
-/
module

public import proofs.«01_k».proof.Proof.Common

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the protocol's with duties named by the three offsets -/

abbrev UB : Type := URounds (GSem nD τ sig) (Fin 3)
/-- with the counters the device's own copies draw on. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance

variable (m : (ℓ : Loc nD τ sig) → Buf (Elt F) ℓ)

/-! ## The memory -/

theorem xs_inb (k : Fin 4) : ∀ a, (![k.val, 0, 0] : Fin 3 → ℕ) a + S1x1024x1024.size a ≤ S4x1024x1024.size a := by revert k; decide
theorem xg_inb (k : Fin 3) : ∀ a, (![k.val, 0, 0] : Fin 3 → ℕ) a + S1x1024x1024.size a ≤ S3x1024x1024.size a := by revert k; decide
theorem am_inb (k : Fin 4) : ∀ a, (![k.val, 0, 0] : Fin 3 → ℕ) a + S1x8x128.size a ≤ S4x8x128.size a := by revert k; decide

/-- Slot `k` of the scratch the rounded blocks of `x` are kept in and sent from, -/
abbrev xsV (k : Fin 4) : Memref sig .tc .vmem S1x1024x1024 .bf16 :=
  (Memref.whole cc0_scratch1).slice (Rect.unit (s := S4x1024x1024) ![k.val, 0, 0] S1x1024x1024.size (xs_inb k)) (fun _ => rfl)
/-- of the scratch they are received in, -/
abbrev xgV (k : Fin 3) : Memref sig .tc .vmem S1x1024x1024 .bf16 :=
  (Memref.whole cc0_scratch2).slice (Rect.unit (s := S3x1024x1024) ![k.val, 0, 0] S1x1024x1024.size (xg_inb k)) (fun _ => rfl)
/-- and of the scratch the largest magnitudes are exchanged in. -/
abbrev amV (k : Fin 4) : Memref sig .tc .vmem S1x8x128 .f32 :=
  (Memref.whole cc0_scratch4).slice (Rect.unit (s := S4x8x128) ![k.val, 0, 0] S1x8x128.size (am_inb k)) (fun _ => rfl)

/-- A slot number among four. -/
abbrev up (s : Fin 3) : Fin 4 := ⟨s.val, by omega⟩

/-- A slot as the transfers name it, its leading axis dropped. -/
abbrev xsQ (k : Fin 4) : Memref sig .tc .vmem S1024x1024 .bf16 := (xsV k).squeeze S1024x1024 squeezes_S1x1024x1024_S1024x1024
abbrev xgQ (k : Fin 3) : Memref sig .tc .vmem S1024x1024 .bf16 := (xgV k).squeeze S1024x1024 squeezes_S1x1024x1024_S1024x1024
abbrev amQ (k : Fin 4) : Memref sig .tc .vmem S8x128 .f32 := (amV k).squeeze S8x128 squeezes_S1x8x128_S8x128

/-! ## The cells -/

/-- The runtime's barrier semaphore. -/
abbrev barS : Sem sig := (SemArray.scalar (sig.barrier 0 rfl) : Sems sig S_).sem

/-- DMA semaphore number `i`: 0 stages the result; 1–3 the sends of `x`, 4–6 their arrivals; 7–9 the sends of the
    magnitudes, 10–12 their arrivals; 13, 14 the copies of `w`, 15 those of `x`. -/
def dq (i : Fin 16) : DmaSem sig := i

/-- The cells of the protocol on one device: the barrier and DMA semaphores 1 to 12. -/
def csem (k : Fin 13) : SemLoc sig := if k = 0 then .reg barS else .dma (dq (k.castLE (by decide)))
def kcell (ck : Dev nD × Fin 13) : GSem nD τ sig := ((ck.1 : Thread nD τ), csem ck.2)

abbrev barCell (c : Dev nD) : GSem nD τ sig := kcell (c, 0)
def kSnd (s : Fin 3) : Fin 13 := ⟨1 + s.val, by omega⟩
def kRcv (s : Fin 3) : Fin 13 := ⟨4 + s.val, by omega⟩
def kASnd (s : Fin 3) : Fin 13 := ⟨7 + s.val, by omega⟩
def kARcv (s : Fin 3) : Fin 13 := ⟨10 + s.val, by omega⟩

/-- What one transfer of a block of `x`, and one of the magnitudes, credits. -/
def NX : ℕ := (xgQ 0).view.dmaCredit
def NA : ℕ := (amQ 0).view.dmaCredit
theorem NX_pos : 0 < NX := View.dmaCredit_pos _ (by decide)
theorem NA_pos : 0 < NA := View.dmaCredit_pos _ (by decide)

/-! ## The values -/

theorem xblk_inb (j : Dev nD) : ∀ a, (![1024 * j.val, 0] : Fin 2 → ℕ) a + S1024x1024.size a ≤ S4096x1024.size a := by revert j; decide
theorem wblk_inb (k : Dev nD) (n : Fin 4) : ∀ a, (![1024 * k.val, 2048 * n.val] : Fin 2 → ℕ) a + S1024x2048.size a ≤ S4096x8192.size a := by
  revert k n; decide

/-- Rows block `j` of device `p`'s columns of `x`. -/
def xblk (p j : Dev nD) : Vec F S1024x1024 .f32 :=
  ((Memref.whole main_arg0).slice (Rect.unit (s := S4096x1024) ![1024 * j.val, 0] S1024x1024.size (xblk_inb j)) (fun _ => rfl)).view.read (Elt F)
    (m ((p : Thread nD τ).loc main_arg0))
/-- Rows block `k`, columns block `n` of `w` on device `p`, -/
def wblk (p k : Dev nD) (n : Fin 4) : Vec F S1024x2048 .f32 :=
  ((Memref.whole main_arg1).slice (Rect.unit (s := S4096x8192) ![1024 * k.val, 2048 * n.val] S1024x2048.size (wblk_inb k n)) (fun _ => rfl)).view.read (Elt F)
    (m ((p : Thread nD τ).loc main_arg1))
/-- as loaded from a slot of the copy scratch. -/
def wld (p k : Dev nD) (n : Fin 4) : Vec F S1x1024x2048 .f32 := shapeCast S1x1024x2048 (wblk m p k n) (by decide)

/-- Rows block `j` of device `p`'s `x`, rounded, in a slot's shape. -/
def xr (p j : Dev nD) : FVec F S1x1024x1024 .bf16 := k0_pay5 (xblk m p j)
/-- The left factor device `c` takes from device `p`'s block. -/
def lf (p c : Dev nD) : FVec F S1024x1024 .f32 := k0_pay12 (xr m p c)

/-- The running sum of columns block `n` on device `c`: its own block's product first, -/
def acc0 (c : Dev nD) (n : Fin 4) : FVec F S1024x2048 .bf16 := k0_pay6 (lf m c c) (wld m c c n)
/-- then those of the devices before, after, and opposite. -/
def acc1 (c : Dev nD) (n : Fin 4) : FVec F S1024x2048 .bf16 := k0_pay15 (lf m (rel c 3) c) (wld m c (rel c 3) n) (acc0 m c n)
def acc2 (c : Dev nD) (n : Fin 4) : FVec F S1024x2048 .bf16 := k0_pay15 (lf m (rel c 1) c) (wld m c (rel c 1) n) (acc1 m c n)
def acc3 (c : Dev nD) (n : Fin 4) : FVec F S1024x2048 .bf16 := k0_pay15 (lf m (rel c 2) c) (wld m c (rel c 2) n) (acc2 m c n)

/-- The largest magnitude device `c` finds, taken columns block by columns block. -/
def am (c : Dev nD) : F .f32 :=
  k0_pay37 (lf m (rel c 2) c)
    (k0_pay31 (k0_pay27 (lf m (rel c 2) c) (wld m c (rel c 2) 0) (acc2 m c 0)) (k0_pay28 (lf m (rel c 2) c) (wld m c (rel c 2) 1)) (acc2 m c 1))
    (k0_pay34 (lf m (rel c 2) c) (wld m c (rel c 2) 2) (acc2 m c 2)) (wld m c (rel c 2) 3) (acc2 m c 3)
/-- The tile it sends. -/
def tile (c : Dev nD) : FVec F S1x8x128 .f32 := k0_pay38 (am m c)
/-- All four devices' magnitudes as device `c` holds them: slot `k` from the device `k + 1` before it, its own last. -/
def amAll (c : Dev nD) : Vec F S4x8x128 .f32 := fun i => am m (rel c (3 - (i 0).val))

/-- Columns block `n` of the result on device `c`, -/
def outq (c : Dev nD) (n : Fin 4) : FVec F S1024x2048 .bf16 := k0_pay44 (k0_pay39 (amAll m c)) (k0_pay40 (amAll m c)) (acc3 m c n)

/-! ## What a landing hands over -/

/-- Slot `k` of a scratch of `c`, at contents reading `X` or any. -/
def xsAny (c : Dev nD) (k : Fin 4) : sProp 𝕄 := iprop(∃ f, (xsV k).view.loc (c : Thread nD τ) ↦[(xsV k).view.set]{fullShare} f)
def xgAny (c : Dev nD) (k : Fin 3) : sProp 𝕄 := iprop(∃ f, (xgV k).view.loc (c : Thread nD τ) ↦[(xgV k).view.set]{fullShare} f)
def amAny (c : Dev nD) (k : Fin 4) : sProp 𝕄 := iprop(∃ f, (amV k).view.loc (c : Thread nD τ) ↦[(amV k).view.set]{fullShare} f)
def xgAt (c : Dev nD) (k : Fin 3) (X : FVec F S1x1024x1024 .bf16) : sProp 𝕄 :=
  (xgV k).view.loc (c : Thread nD τ) ↦[(xgV k).view.set]{fullShare} (xgV k).view.rep X
def amAt (c : Dev nD) (k : Fin 4) (q : PosShare TreeShare) (X : FVec F S1x8x128 .f32) : sProp 𝕄 :=
  (amV k).view.loc (c : Thread nD τ) ↦[(amV k).view.set]{q} (amV k).view.rep X

/-- A view's elements at any contents, and at given ones, can be stored. -/
theorem any_storable {sp : Space} {s : Shape} {e : EltTy} (c : Dev nD) (v : Memref sig .tc sp s e) :
    BI.Storable (upEmb : UEmb _ 𝕄) (iprop(∃ f, v.view.loc (c : Thread nD τ) ↦[v.view.set]{fullShare} f)) := inferInstance
theorem at_storable {sp : Space} {s : Shape} {e : EltTy} (c : Dev nD) (v : Memref sig .tc sp s e) (q : PosShare TreeShare) (f) :
    BI.Storable (upEmb : UEmb _ 𝕄) (v.view.loc (c : Thread nD τ) ↦[v.view.set]{q} f) := inferInstance

instance xsAny_storable (c : Dev nD) (k) : BI.Storable (upEmb : UEmb _ 𝕄) (xsAny (F := F) c k) := any_storable c (xsV k)
instance xgAny_storable (c : Dev nD) (k) : BI.Storable (upEmb : UEmb _ 𝕄) (xgAny (F := F) c k) := any_storable c (xgV k)
instance amAny_storable (c : Dev nD) (k) : BI.Storable (upEmb : UEmb _ 𝕄) (amAny (F := F) c k) := any_storable c (amV k)
instance xgAt_storable (c : Dev nD) (k X) : BI.Storable (upEmb : UEmb _ 𝕄) (xgAt (F := F) c k X) := at_storable c (xgV k) _ _
instance amAt_storable (c : Dev nD) (k q X) : BI.Storable (upEmb : UEmb _ 𝕄) (amAt (F := F) c k q X) := at_storable c (amV k) _ _

/-- The share of the magnitude tile lent to the send in slot `s`, and the share kept. -/
def aq (s : Fin 3) : PosShare TreeShare := Transfers.shareTokN fullShare s.val
def aqKept : PosShare TreeShare := Transfers.shareDrop fullShare 3

/-- Duty `d` of `t`'s barrier cell is paid by the device `d + 1` after `t`: its slots `d`, which `t` will write, and that it has
    reached the round of their arrival cells. -/
def barPay (t : Dev nD) (d : Fin 3) : sProp 𝕄 :=
  iprop(xgAny (rel t (d.val + 1)) d ∗ amAny (rel t (d.val + 1)) (up d)
    ∗ reached ER (kcell (rel t (d.val + 1), kRcv d)) 0 ∗ reached ER (kcell (rel t (d.val + 1), kARcv d)) 0)

def dmaPay (c : Dev nD) : ℕ → sProp 𝕄
  | 1 => xsAny c 0 | 2 => xsAny c 1 | 3 => xsAny c 2
  | 4 => xgAt c 0 (xr m (rel c 3) c) | 5 => xgAt c 1 (xr m (rel c 2) c) | 6 => xgAt c 2 (xr m (rel c 1) c)
  | 7 => amAt c 3 (aq 0) (tile m c) | 8 => amAt c 3 (aq 1) (tile m c) | 9 => amAt c 3 (aq 2) (tile m c)
  | 10 => amAt c 0 fullShare (tile m (rel c 3)) | 11 => amAt c 1 fullShare (tile m (rel c 2)) | 12 => amAt c 2 fullShare (tile m (rel c 1))
  | _ => iprop(emp)

/-- Three duties on the barrier semaphore, one on each of the DMA semaphores 1 to 12. -/
def dutS : SemLoc sig → Finset (Fin 3)
  | .reg s => if s = barS then Finset.univ else ∅
  | .dma q => if 1 ≤ q.val ∧ q.val ≤ 12 then {0} else ∅

/-- The schedule. -/
def Rd : Rounds.Schedule (GSem nD τ sig) (Fin 3) 𝕄 where
  duties g r := if r = 0 ∧ g.1.2 = .tc then dutS g.2 else ∅
  unitless _ := False
  amount g _ _ := match g.2 with | .reg _ => 1 | .dma q => if q.val ≤ 6 then NX else NA
  payload g _ d := match g.2 with | .reg _ => barPay g.1.1 d | .dma q => dmaPay m g.1.1 q.val
  amount_pos g _ _ _ := by
    rcases g with ⟨t, sm⟩
    cases sm with
    | reg s => exact Nat.one_pos
    | dma q => show 0 < (if q.val ≤ 6 then NX else NA); split; exacts [NX_pos, NA_pos]

instance Rd_payload_storable (g : GSem nD τ sig) (r : ℕ) (d : Fin 3) : BI.Storable (upEmb : UEmb _ 𝕄) ((Rd (F := F) m).payload g r d) := by
  rcases g with ⟨t, sm⟩
  cases sm with
  | reg s => show BI.Storable upEmb (barPay t.1 d); unfold barPay; infer_instance
  | dma q => show BI.Storable upEmb (dmaPay m t.1 q.val); unfold dmaPay; split <;> infer_instance

theorem kcell_dma (c : Dev nD) (k : Fin 13) (hk : k ≠ 0) : kcell (c, k) = ((c : Thread nD τ), .dma (dq (k.castLE (by decide)))) := by
  unfold kcell csem; rw [if_neg hk]
theorem duties_tc (c : Dev nD) (sm : SemLoc sig) : (Rd (F := F) m).duties ((c : Thread nD τ), sm) 0 = dutS sm := by
  show (if (0 : ℕ) = 0 ∧ (c : Thread nD τ).2 = .tc then dutS sm else ∅) = dutS sm
  rw [if_pos ⟨rfl, rfl⟩]
theorem dutS_bar : dutS (.reg barS) = Finset.univ := by
  show (if barS = barS then Finset.univ else ∅) = Finset.univ
  rw [if_pos rfl]
theorem duties_bar (c : Dev nD) : (Rd (F := F) m).duties (barCell c) 0 = Finset.univ := (duties_tc m c _).trans dutS_bar
theorem duties_dma (c : Dev nD) (k : Fin 13) (hk : k ≠ 0) : (Rd (F := F) m).duties (kcell (c, k)) 0 = {0} := by
  rw [kcell_dma c k hk, duties_tc]
  exact if_pos ⟨Nat.one_le_iff_ne_zero.mpr fun h => hk (Fin.ext h), Nat.lt_succ_iff.mp k.isLt⟩
theorem duties_later (g : GSem nD τ sig) : ∀ r, 1 ≤ r → (Rd (F := F) m).duties g r = ∅ := fun r hr => if_neg fun h => by omega

/-- What a cell's transfer credits. -/
def kAmt (k : Fin 13) : ℕ := if k = 0 then 1 else if k.val ≤ 6 then NX else NA
theorem amount_eq (c : Dev nD) (k : Fin 13) (d : Fin 3) : (Rd (F := F) m).amount (kcell (c, k)) 0 d = kAmt k := by
  unfold kAmt
  by_cases hk : k = 0
  · subst hk; rfl
  · have h := kcell_dma c k hk
    rw [h, if_neg hk]; rfl
theorem payload_bar (c : Dev nD) (d : Fin 3) : (Rd (F := F) m).payload (barCell c) 0 d = barPay c d := rfl
theorem payload_dma (c : Dev nD) (k : Fin 13) (hk : k ≠ 0) (d : Fin 3) : (Rd (F := F) m).payload (kcell (c, k)) 0 d = dmaPay m c k.val := by
  have h := kcell_dma c k hk
  rw [h]; rfl

theorem expect_bar (c : Dev nD) : (Rd (F := F) m).expect (barCell c) 0 = 3 := by
  unfold Schedule.expect Schedule.amountOf
  rw [duties_bar, Finset.sum_congr rfl fun d _ => amount_eq m c 0 d, Finset.sum_const, Finset.card_univ, Fintype.card_fin, smul_eq_mul]; rfl
theorem expect_dma (c : Dev nD) (k : Fin 13) (hk : k ≠ 0) : (Rd (F := F) m).expect (kcell (c, k)) 0 = kAmt k := by
  unfold Schedule.expect Schedule.amountOf; rw [duties_dma m c k hk, Finset.sum_singleton, amount_eq]

theorem rest_bar (c : Dev nD) : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide)]; rfl
theorem rest_dma (c : Dev nD) (k : Fin 13) (hk : k ≠ 0) :
    bigSep ((Rd (F := F) m).duties (kcell (c, k)) 0 \ ∅) (fun d => (Rd (F := F) m).payload (kcell (c, k)) 0 d) = dmaPay m c k.val := by
  rw [Finset.sdiff_empty, duties_dma m c k hk, bigSep_singleton, payload_dma m c k hk]

/-! ## What each device owes, in the order it pays from the last back; the levels -/

/-- The cell the payment with `k` more to come goes to: the three signals first, then the blocks of `x`, then the magnitudes. -/
def owK (k : ℕ) : Fin 13 := if k < 3 then ⟨12 - k, by omega⟩ else if k < 6 then ⟨9 - k, by omega⟩ else 0
def owCell (c : Dev nD) (k : ℕ) : GSem nD τ sig := kcell (rel c (3 - k % 3), owK k)
/-- What is owed with `k` payments to come. -/
def Ow (c : Dev nD) : ℕ → CellTallies nD τ sig Unit
  | 0 => 0
  | k + 1 => Ow c k + tallyAt (owCell c k) () (kAmt (owK k))
def O₀ (c : Dev nD) : CellTallies nD τ sig Unit := Ow c 9

def L (g : GSem nD τ sig) : Finset Unit := if g.1.2 = .tc then {()} else ∅
/-- The barrier at 1, arrivals of `x` at 2, arrivals of the magnitudes at 3, everything else at 0. -/
def lvS : SemLoc sig → ℕ
  | .reg _ => 1
  | .dma q => if 4 ≤ q.val ∧ q.val ≤ 6 then 2 else if 10 ≤ q.val ∧ q.val ≤ 12 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {g : GSem nD τ sig} {u : Unit} : ∀ {k : ℕ}, 0 < Ow c k g u → ∃ i < k, g = owCell c i
  | 0, h => absurd h (Nat.lt_irrefl 0)
  | k + 1, h => by
    by_cases hg : g = owCell c k
    · exact ⟨k, Nat.lt_succ_self k, hg⟩
    · have h' : 0 < Ow c k g u := by
        have e : Ow c (k + 1) g u = Ow c k g u + tallyAt (owCell c k) () (kAmt (owK k)) g u := rfl
        rw [e, tallyAt_apply, if_neg (fun h => hg h.1)] at h
        exact h
      obtain ⟨i, hi, e⟩ := Ow_pos h'
      exact ⟨i, Nat.lt_succ_of_lt hi, e⟩

/-- A device may wait on a cell below everything it still owes. -/
theorem mayWait_of (c : Dev nD) (sm : SemLoc sig) (k : ℕ) (h : ∀ i < k, lvS sm < lvS (csem (owK i))) :
    (levAts L lv : sProp 𝕄) ⊢ MayWait (c : Thread nD τ) sm () (Ow c k) :=
  MayOwe.of_cut (L := L) (lev := lv) (lvS sm) (fun p hp => by rw [Finset.mem_singleton.mp hp, L_tc]; exact Finset.mem_singleton_self _)
    (fun g u hg => by obtain ⟨i, hi, rfl⟩ := Ow_pos hg; exact Finset.mem_singleton_self _)
    (fun p hp => by rw [Finset.mem_singleton.mp hp]; exact Nat.le_refl _)
    (fun g u hg => by obtain ⟨i, hi, rfl⟩ := Ow_pos hg; exact h i hi)

theorem lvS_ow_pos (i : ℕ) (hi : i < 9) : 0 < lvS (csem (owK i)) := by
  have h : ∀ i : Fin 9, 0 < lvS (csem (owK i.val)) := by decide
  exact h ⟨i, hi⟩

/-- A wait on a semaphore of the device's own copies, whatever it owes. -/
theorem mayWait_local (c : Dev nD) (q : DmaSem sig) (k : ℕ) (hq : lvS (.dma q) = 0) (hk : k ≤ 9) :
    (levAts L lv : sProp 𝕄) ⊢ MayWait (c : Thread nD τ) (.dma q) () (Ow c k) :=
  mayWait_of c _ k fun i hi => hq ▸ lvS_ow_pos i (Nat.lt_of_lt_of_le hi hk)

end Cert.KernelIdeal.Run

end
-- ==== Proof.Steps.lean ====
/-
  The protocol's steps, each once for every device and slot: a signal of the entry barrier, a send of a block of `x`, a send of
  the magnitude tile, a wait on one of the protocol's cells, and the closing of a cell.
-/
module

public import proofs.«01_k».proof.Proof.Sched

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

abbrev 𝒱₀ : Variants := Variants.none

/-- Every cell's invariant, and that every cell has reached round 0. -/
def invAll : sProp 𝕄 := bigSep Finset.univ fun ck : Dev nD × Fin 13 => cellInv ER (Rd m) (K ck) (kcell ck)
def rchAll : sProp 𝕄 := bigSep Finset.univ fun ck : Dev nD × Fin 13 => reached ER (kcell ck) 0

instance invAll_persistent : BI.Persistent (invAll m K) := by unfold invAll; infer_instance
instance rchAll_persistent : BI.Persistent (rchAll (F := F)) := by unfold rchAll; infer_instance

theorem inv_at (ck : Dev nD × Fin 13) : invAll m K ⊢ cellInv ER (Rd m) (K ck) (kcell ck) := bigSep_elim (Finset.mem_univ ck)
theorem rch_at (ck : Dev nD × Fin 13) : (rchAll : sProp 𝕄) ⊢ reached ER (kcell ck) 0 := bigSep_elim (Finset.mem_univ ck)

/-! ## A transfer between squeezed slots, seen from the slots -/

theorem read_squeeze_land {s s' : Shape} {e : EltTy} {sp sp' : Space} {κ κ' : Kind} (S : Memref sig κ sp s e) (D : Memref sig κ' sp' s e)
    (h h' : s.Squeezes s') (fs : S.view.ty.Contents (Elt F)) (fd : D.view.ty.Contents (Elt F)) :
    D.view.read (Elt F) ((D.squeeze s' h').view.write (Elt F) fd ((S.squeeze s' h).view.read (Elt F) fs) Finset.univ) = S.view.read (Elt F) fs := by
  funext y
  have key := congrFun (View.read_write_univ (v := (D.squeeze s' h').view) fd ((S.squeeze s' h).view.read (Elt F) fs))
    ((Shape.reshapeEquiv h'.numel_eq).symm y)
  have e1 : Shape.reshapeEquiv h'.numel_eq ((Shape.reshapeEquiv h'.numel_eq).symm y) = y := Equiv.apply_symm_apply _ _
  have a1 : (D.squeeze s' h').view.read (Elt F) ((D.squeeze s' h').view.write (Elt F) fd ((S.squeeze s' h).view.read (Elt F) fs) Finset.univ)
      ((Shape.reshapeEquiv h'.numel_eq).symm y)
      = D.view.read (Elt F) ((D.squeeze s' h').view.write (Elt F) fd ((S.squeeze s' h).view.read (Elt F) fs) Finset.univ)
          (Shape.reshapeEquiv h'.numel_eq ((Shape.reshapeEquiv h'.numel_eq).symm y)) := rfl
  have a2 : (S.squeeze s' h).view.read (Elt F) fs ((Shape.reshapeEquiv h'.numel_eq).symm y)
      = S.view.read (Elt F) fs (Shape.reshapeEquiv h'.numel_eq ((Shape.reshapeEquiv h'.numel_eq).symm y)) := rfl
  rw [a1, a2, e1] at key
  exact key

/-- The elements of a squeezed slot are the slot's. -/
theorem pts_squeeze {s s' : Shape} {e : EltTy} {sp : Space} (c : Dev nD) (S : Memref sig .tc sp s e) (h : s.Squeezes s') (q : PosShare TreeShare)
    (f : Buf (Elt F) (S.view.loc (c : Thread nD τ))) :
    ((S.squeeze s' h).view.loc (c : Thread nD τ) ↦[(S.squeeze s' h).view.set]{q} f : sProp 𝕄) = (S.view.loc (c : Thread nD τ) ↦[S.view.set]{q} f) := by
  have e : (S.squeeze s' h).view.set = S.view.set := View.set_reshape _ _
  show (S.view.loc (c : Thread nD τ) ↦[(S.squeeze s' h).view.set]{q} f : sProp 𝕄) = _
  rw [e]

/-- A landing in a squeezed slot leaves the slot at what the source slot read. -/
theorem land_rep {s s' : Shape} {e : EltTy} {sp sp' : Space} {κ : Kind} (n : Dev nD) (S : Memref sig κ sp s e) (D : Memref sig .tc sp' s e)
    (h h' : s.Squeezes s') (fs : S.view.ty.Contents (Elt F)) (fd : Buf (Elt F) (D.view.loc (n : Thread nD τ))) (X : s.Idx → Elt F e) (hX : S.view.read (Elt F) fs = X) :
    ((D.squeeze s' h').view.loc (n : Thread nD τ) ↦[(D.squeeze s' h').view.set]{fullShare}
        ((D.squeeze s' h').view.write (Elt F) fd ((S.squeeze s' h).view.read (Elt F) fs) Finset.univ) : sProp 𝕄)
      ⊢ D.view.loc (n : Thread nD τ) ↦[D.view.set]{fullShare} D.view.rep X := by
  rw [pts_squeeze (F := F) n D h' fullShare]
  exact pointsTo_rep_of_read (n : Thread nD τ) D _ fullShare X ((read_squeeze_land S D h h' fs fd).trans hX)

/-! ## The steps -/

theorem Ow_succ (c : Dev nD) (k : ℕ) : Ow c (k + 1) = Ow c k + tallyAt (owCell c k) () (kAmt (owK k)) := rfl

theorem owCell_bar (c : Dev nD) (s : Fin 3) : owCell c (6 + s.val) = ((rel c (3 - s.val) : Thread nD τ), .reg barS) := by revert c s; decide
theorem owK_bar (s : Fin 3) : owK (6 + s.val) = 0 := by revert s; decide
theorem owCell_rcv (c : Dev nD) (s : Fin 3) : owCell c (5 - s.val) = ((rel c (s.val + 1) : Thread nD τ), .dma (dq ⟨4 + s.val, by omega⟩)) := by revert c s; decide
theorem owK_rcv (s : Fin 3) : owK (5 - s.val) = kRcv s := by revert s; decide
theorem owCell_arcv (c : Dev nD) (s : Fin 3) : owCell c (2 - s.val) = ((rel c (s.val + 1) : Thread nD τ), .dma (dq ⟨10 + s.val, by omega⟩)) := by revert c s; decide
theorem owK_arcv (s : Fin 3) : owK (2 - s.val) = kARcv s := by revert s; decide
theorem kcell_snd (c : Dev nD) (s : Fin 3) : kcell (c, kSnd s) = ((c : Thread nD τ), .dma (dq ⟨1 + s.val, by omega⟩)) := by revert c s; decide
theorem kcell_rcv (c : Dev nD) (s : Fin 3) : kcell (c, kRcv s) = ((c : Thread nD τ), .dma (dq ⟨4 + s.val, by omega⟩)) := by revert c s; decide
theorem kcell_asnd (c : Dev nD) (s : Fin 3) : kcell (c, kASnd s) = ((c : Thread nD τ), .dma (dq ⟨7 + s.val, by omega⟩)) := by revert c s; decide
theorem kcell_arcv (c : Dev nD) (s : Fin 3) : kcell (c, kARcv s) = ((c : Thread nD τ), .dma (dq ⟨10 + s.val, by omega⟩)) := by revert c s; decide
theorem kSnd_ne (s : Fin 3) : kSnd s ≠ 0 := by revert s; decide
theorem kRcv_ne (s : Fin 3) : kRcv s ≠ 0 := by revert s; decide
theorem kASnd_ne (s : Fin 3) : kASnd s ≠ 0 := by revert s; decide
theorem kARcv_ne (s : Fin 3) : kARcv s ≠ 0 := by revert s; decide
theorem kAmt_snd (s : Fin 3) : kAmt (kSnd s) = NX := by unfold kAmt; rw [if_neg (kSnd_ne s), if_pos (by revert s; decide)]
theorem kAmt_rcv (s : Fin 3) : kAmt (kRcv s) = NX := by unfold kAmt; rw [if_neg (kRcv_ne s), if_pos (by revert s; decide)]
theorem kAmt_asnd (s : Fin 3) : kAmt (kASnd s) = NA := by unfold kAmt; rw [if_neg (kASnd_ne s), if_neg (by revert s; decide)]
theorem kAmt_arcv (s : Fin 3) : kAmt (kARcv s) = NA := by unfold kAmt; rw [if_neg (kARcv_ne s), if_neg (by revert s; decide)]
theorem rel_back (c : Dev nD) (s : Fin 3) : rel (rel c (s.val + 1)) (3 - s.val) = c := by revert c s; decide

theorem pay_snd (c : Dev nD) (s : Fin 3) : dmaPay (F := F) m c (kSnd s).val = xsAny c (up s) := by fin_cases s <;> rfl
theorem pay_rcv (c : Dev nD) (s : Fin 3) : dmaPay (F := F) m c (kRcv s).val = xgAt c s (xr m (rel c (3 - s.val)) c) := by fin_cases s <;> rfl
theorem pay_asnd (c : Dev nD) (s : Fin 3) : dmaPay (F := F) m c (kASnd s).val = amAt c 3 (aq s) (tile m c) := by fin_cases s <;> rfl
theorem pay_arcv (c : Dev nD) (s : Fin 3) : dmaPay (F := F) m c (kARcv s).val = amAt c (up s) fullShare (tile m (rel c (3 - s.val))) := by
  fin_cases s <;> rfl

/-- The signal of device `n`'s barrier cell for duty `s`: device `c`'s slots `s` go with it. -/
theorem wp_sig (c n : Dev nD) (s : Fin 3) (k : ℕ) (hk : k = 6 + s.val) (hn : n = rel c (3 - s.val)) {b : Sem sig} (hbs : b = barS) {v : Int} (hv : v = 1)
    {α : Type} {Q : α → sProp 𝕄} {kk : PUnit → Prog (TpuEff nD τ sig (Elt F) Λ₀ .tc) α} (W : Waits sig Unit) :
    iprop(invAll m K ∗ rchAll (F := F) ∗ owes (c : Thread nD τ) (Ow c (k + 1)) W ∗ dutyTok ER (barCell (rel c (3 - s.val))) 0 s
        ∗ xgAny c s ∗ amAny c (up s))
      ⊢ iprop((owes (c : Thread nD τ) (Ow c k) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) b v) kk) Q) := by
  subst hk hn hbs hv
  have hb : rel (rel c (3 - s.val)) (s.val + 1) = c := by revert c s; decide
  have hO : Ow c (6 + s.val + 1) = Ow c (6 + s.val) + tallyAt ((rel c (3 - s.val) : Thread nD τ), .reg barS) () 1 := by
    clear hb
    rw [Ow_succ]
    have h1 : owCell c (6 + s.val) = ((rel c (3 - s.val) : Thread nD τ), .reg barS) := owCell_bar c s
    have h2 : owK (6 + s.val) = 0 := owK_bar s
    rw [h1, h2]; rfl
  iintro ⟨#HI, #HR, HO, Htok, Hx, Ha⟩
  ihave #Hi := (inv_at m K (rel c (3 - s.val), 0)) $$ HI
  ihave #Hr := (rch_at (F := F) (rel c (3 - s.val), 0)) $$ HR
  ihave #Hr1 := (rch_at (F := F) (c, kRcv s)) $$ HR
  ihave #Hr2 := (rch_at (F := F) (c, kARcv s)) $$ HR
  iintro Hk
  iapply (Rounds.wp_signal 𝒱₀ ER (Rd m) (c : Thread nD τ) none (dst := (rel c (3 - s.val) : Thread nD τ)) (κ := K (rel c (3 - s.val), 0))
      (d := s) (r := 0) (by rw [show ((rel c (3 - s.val) : Thread nD τ), SemLoc.reg barS) = barCell (rel c (3 - s.val)) from rfl, duties_bar]; exact Finset.mem_univ _)
      ((amount_eq m (rel c (3 - s.val)) 0 s).trans rfl) () (Ow c (6 + s.val)) hO)
    $$ [HO Htok Hx Ha]
  · isplitr; · iexact Hi
    isplitl [HO]; · iexact HO
    isplitl [Htok]; · iexact Htok
    isplitl
    · rw [show ((rel c (3 - s.val) : Thread nD τ), SemLoc.reg barS) = barCell (rel c (3 - s.val)) from rfl, payload_bar]; unfold barPay; rw [hb]
      isplitl [Hx]; · iexact Hx
      isplitl [Ha]; · iexact Ha
      isplitr; · iexact Hr1
      iexact Hr2
    · iexact Hr
  iexact Hk

set_option maxHeartbeats 1600000 in
/-- The send of slot `s`, holding the block of `x` device `n` needs, into device `n`'s slot `s`. -/
theorem wp_sendx (c n : Dev nD) (s : Fin 3) (k : ℕ) (hk : k = 5 - s.val) (hn : n = rel c (s.val + 1))
    {S D : Memref sig .tc .vmem S1024x1024 .bf16} (hS : S = xsQ (up s)) (hD : D = xgQ s)
    {qs qr : DmaSem sig} (hqs : qs = dq ⟨1 + s.val, by omega⟩) (hqr : qr = dq ⟨4 + s.val, by omega⟩)
    {hsc : D.view.ref.isScScratch = false} {hsrc : S.view.WordExact} {hdst : D.view.WordExact}
    {hsem : DmaTarget.Typed .vmem (.dma qr) (.remote (Dev.tc n : Thread nD τ) D (.dma qs) hsc)}
    {α : Type} {Q : α → sProp 𝕄} {kk : PUnit → Prog (TpuEff nD τ sig (Elt F) Λ₀ .tc) α} (W : Waits sig Unit)
    (fs : Buf (Elt F) ((xsV (up s)).view.loc (c : Thread nD τ)))
    (hfs : (xsV (up s)).view.read (Elt F) fs = xr m c (rel c (s.val + 1))) :
    iprop(invAll m K ∗ rchAll (F := F) ∗ owes (c : Thread nD τ) (Ow c (k + 1)) W
        ∗ dutyTok ER (kcell (c, kSnd s)) 0 0 ∗ dutyTok ER (kcell (rel c (s.val + 1), kRcv s)) 0 0
        ∗ ((xsV (up s)).view.loc (c : Thread nD τ) ↦[(xsV (up s)).view.set]{fullShare} fs)
        ∗ xgAny (rel c (s.val + 1)) s)
      ⊢ iprop(((cred (tallyAt (kcell (c, kSnd s)) () NX) ∗ owes (c : Thread nD τ) (Ow c k) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma S (.remote (Dev.tc n : Thread nD τ) D (.dma qs) hsc) (.dma qr) hsrc hdst hsem) kk) Q) := by
  subst hk hn hS hD hqs hqr
  have hO : Ow c (5 - s.val + 1) = Ow c (5 - s.val) + tallyAt ((rel c (s.val + 1) : Thread nD τ), .dma (dq ⟨4 + s.val, by omega⟩)) () NX := by
    rw [Ow_succ, owCell_rcv, owK_rcv, kAmt_rcv]
  unfold xgAny
  rw [kcell_snd, kcell_rcv]
  iintro ⟨#HI, #HR, HO, Ht1, Ht2, Hs, ⟨%fd, Hd⟩⟩ Hk
  ihave #Hi1 := (inv_at m K (c, kSnd s)) $$ HI
  ihave #Hi2 := (inv_at m K (rel c (s.val + 1), kRcv s)) $$ HI
  ihave #Hr1 := (rch_at (F := F) (c, kSnd s)) $$ HR
  ihave #Hr2 := (rch_at (F := F) (rel c (s.val + 1), kRcv s)) $$ HR
  rw [kcell_snd, kcell_rcv]
  ihave Hs' := (Entails.of_eq (pts_squeeze (F := F) c (xsV (up s)) squeezes_S1x1024x1024_S1024x1024 fullShare fs).symm) $$ Hs
  ihave Hd' := (Entails.of_eq (pts_squeeze (F := F) (rel c (s.val + 1)) (xgV s) squeezes_S1x1024x1024_S1024x1024 fullShare fd).symm) $$ Hd
  iapply (Rounds.wp_send_pointsTo 𝒱₀ ER (Rd m) (c : Thread nD τ) none (κ₁ := K (c, kSnd s)) (κ₂ := K (rel c (s.val + 1), kRcv s))
    (c' := (rel c (s.val + 1) : Thread nD τ)) (src := xsQ (up s)) (dst := xgQ s) (q := fullShare) (fs := fs) (r₁ := 0) (r₂ := 0) (d₁ := 0) (d₂ := 0) (fd := fd)
    (by rw [← kcell_snd, duties_dma m c _ (kSnd_ne s)]; exact Finset.mem_singleton_self _)
    (by rw [← kcell_rcv, duties_dma m _ _ (kRcv_ne s)]; exact Finset.mem_singleton_self _)
    () () NX rfl (by rw [← kcell_snd, amount_eq, kAmt_snd]) (by rw [← kcell_rcv, amount_eq, kAmt_rcv]) (Ow c (5 - s.val)) hO (W := W)
    (by rw [← kcell_snd, payload_dma m c _ (kSnd_ne s), pay_snd]
        unfold xsAny; rw [pts_squeeze (F := F) c]; iintro H; iexists fs; iexact H)
    (by rw [← kcell_rcv, payload_dma m _ _ (kRcv_ne s), pay_rcv, rel_back]
        exact land_rep (F := F) _ (xsV (up s)) (xgV s) _ _ fs fd _ hfs)) $$ [HO Ht1 Ht2 Hs' Hd']
  · isplitr; · iexact Hi1
    isplitr; · iexact Hi2
    isplitl [Hs']; · iexact Hs'
    isplitl [Hd']; · iexact Hd'
    isplitl [HO]; · iexact HO
    isplitl [Ht1]; · iexact Ht1
    isplitr; · iexact Hr1
    isplitl [Ht2]; · iexact Ht2
    iexact Hr2
  iexact Hk

set_option maxHeartbeats 1600000 in
/-- The send of the magnitude tile, its last slot, into device `n`'s slot `s`. -/
theorem wp_senda (c n : Dev nD) (s : Fin 3) (k : ℕ) (hk : k = 2 - s.val) (hn : n = rel c (s.val + 1))
    {S D : Memref sig .tc .vmem S8x128 .f32} (hS : S = amQ 3) (hD : D = amQ (up s))
    {qs qr : DmaSem sig} (hqs : qs = dq ⟨7 + s.val, by omega⟩) (hqr : qr = dq ⟨10 + s.val, by omega⟩)
    {hsc : D.view.ref.isScScratch = false} {hsrc : S.view.WordExact} {hdst : D.view.WordExact}
    {hsem : DmaTarget.Typed .vmem (.dma qr) (.remote (Dev.tc n : Thread nD τ) D (.dma qs) hsc)}
    {α : Type} {Q : α → sProp 𝕄} {kk : PUnit → Prog (TpuEff nD τ sig (Elt F) Λ₀ .tc) α} (W : Waits sig Unit) :
    iprop(invAll m K ∗ rchAll (F := F) ∗ owes (c : Thread nD τ) (Ow c (k + 1)) W
        ∗ dutyTok ER (kcell (c, kASnd s)) 0 0 ∗ dutyTok ER (kcell (rel c (s.val + 1), kARcv s)) 0 0
        ∗ amAt c 3 (aq s) (tile m c) ∗ amAny (rel c (s.val + 1)) (up s))
      ⊢ iprop(((cred (tallyAt (kcell (c, kASnd s)) () NA) ∗ owes (c : Thread nD τ) (Ow c k) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma S (.remote (Dev.tc n : Thread nD τ) D (.dma qs) hsc) (.dma qr) hsrc hdst hsem) kk) Q) := by
  subst hk hn hS hD hqs hqr
  have hO : Ow c (2 - s.val + 1) = Ow c (2 - s.val) + tallyAt ((rel c (s.val + 1) : Thread nD τ), .dma (dq ⟨10 + s.val, by omega⟩)) () NA := by
    rw [Ow_succ, owCell_arcv, owK_arcv, kAmt_arcv]
  unfold amAny amAt
  rw [kcell_asnd, kcell_arcv]
  iintro ⟨#HI, #HR, HO, Ht1, Ht2, Hs, ⟨%fd, Hd⟩⟩ Hk
  ihave #Hi1 := (inv_at m K (c, kASnd s)) $$ HI
  ihave #Hi2 := (inv_at m K (rel c (s.val + 1), kARcv s)) $$ HI
  ihave #Hr1 := (rch_at (F := F) (c, kASnd s)) $$ HR
  ihave #Hr2 := (rch_at (F := F) (rel c (s.val + 1), kARcv s)) $$ HR
  rw [kcell_asnd, kcell_arcv]
  ihave Hs' := (Entails.of_eq (pts_squeeze (F := F) c (amV 3) squeezes_S1x8x128_S8x128 (aq s) _).symm) $$ Hs
  ihave Hd' := (Entails.of_eq (pts_squeeze (F := F) (rel c (s.val + 1)) (amV (up s)) squeezes_S1x8x128_S8x128 fullShare fd).symm) $$ Hd
  iapply (Rounds.wp_send_pointsTo 𝒱₀ ER (Rd m) (c : Thread nD τ) none (κ₁ := K (c, kASnd s)) (κ₂ := K (rel c (s.val + 1), kARcv s))
    (c' := (rel c (s.val + 1) : Thread nD τ)) (src := amQ 3) (dst := amQ (up s)) (q := aq s) (fs := (amV 3).view.rep (tile m c)) (r₁ := 0) (r₂ := 0) (d₁ := 0) (d₂ := 0) (fd := fd)
    (by rw [← kcell_asnd, duties_dma m c _ (kASnd_ne s)]; exact Finset.mem_singleton_self _)
    (by rw [← kcell_arcv, duties_dma m _ _ (kARcv_ne s)]; exact Finset.mem_singleton_self _)
    () () NA rfl (by rw [← kcell_asnd, amount_eq, kAmt_asnd]) (by rw [← kcell_arcv, amount_eq, kAmt_arcv]) (Ow c (2 - s.val)) hO (W := W)
    (by rw [← kcell_asnd, payload_dma m c _ (kASnd_ne s), pay_asnd]
        unfold amAt; rw [pts_squeeze (F := F) c])
    (by rw [← kcell_arcv, payload_dma m _ _ (kARcv_ne s), pay_arcv, rel_back]
        exact land_rep (F := F) _ (amV 3) (amV (up s)) _ _ _ fd _ (View.read_rep _ _))) $$ [HO Ht1 Ht2 Hs' Hd']
  · isplitr; · iexact Hi1
    isplitr; · iexact Hi2
    isplitl [Hs']; · iexact Hs'
    isplitl [Hd']; · iexact Hd'
    isplitl [HO]; · iexact HO
    isplitl [Ht1]; · iexact Ht1
    isplitr; · iexact Hr1
    isplitl [Ht2]; · iexact Ht2
    iexact Hr2
  iexact Hk

/-- The wait on the barrier cell for its three units: the three peers' slots come with it, and the cell is closed. -/
theorem wp_waitb (c : Dev nD) {b : Sem sig} (hbs : b = barS) {v : ℕ} (hv : v = 3) {α : Type} {Q : α → sProp 𝕄} {kk : PUnit → Prog (TpuEff nD τ sig (Elt F) Λ₀ .tc) α} (W : Waits sig Unit) :
    iprop(invAll m K ∗ (levAts L lv : sProp 𝕄) ∗ cred (tallyAt (barCell c) () 3) ∗ owes (c : Thread nD τ) (Ow c 6) W ∗ atPos ER (barCell c) 0 ∅ 0)
      ⊢ iprop((((∃ W', owes (c : Thread nD τ) (Ow c 6) W') ∗ semVal (barCell c) 0 ∗ barPay c 0 ∗ barPay c 1 ∗ barPay c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait b v) kk) Q) := by
  subst hbs hv
  iintro ⟨#HI, #Hl, Hc, HO, Hat⟩ Hk
  ihave #Hi := (inv_at m K (c, 0)) $$ HI
  iapply (Rounds.wp_wait_rest_token 𝒱₀ ER (Rd m) (c : Thread nD τ) none (κ := K (c, 0)) (sm := .reg barS)
      (wpE_semWait_eq 𝒱₀ (c : Thread nD τ) none Set.univ) (Set.mem_univ _) () (O := Ow c 6) (W := W) (R := 0) (m := 0) (T := ∅)
      (by rw [show ((c : Thread nD τ), SemLoc.reg barS) = barCell c from rfl, expect_bar])) $$ [Hc HO Hat]
  · isplitr; · iexact Hi
    isplitl [Hc]; · iexact Hc
    isplitl [HO]; · iexact HO
    isplitr; · iapply (mayWait_of c (.reg barS) 6 (by decide)); iexact Hl
    iexact Hat
  iintro ⟨HO, Hat, -, Hpay⟩
  rw [show ((c : Thread nD τ), SemLoc.reg barS) = barCell c from rfl]
  ihave Hp := (Entails.of_eq (rest_bar m c)) $$ Hpay
  imod (Rounds.cell_close ER (Rd m) (Set.mem_univ (K (c, 0))) (fun h => h) (R := 0 + 1) (duties_later m (barCell c))) $$ [Hat] with Hz
  · isplitr; · iexact Hi
    iexact Hat
  iapply Hk
  isplitl [HO]; · iexists _; iexact HO
  isplitl [Hz]; · iexact Hz
  iexact Hp

/-- The wait on a DMA cell of the protocol: its payload comes with it, and the cell is closed. -/
theorem wp_waitd (c : Dev nD) (kc : Fin 13) (hkc : kc ≠ 0) (k : ℕ) (hlv : ∀ i < k, lvS (csem kc) < lvS (csem (owK i)))
    {q : DmaSem sig} (hq : SemLoc.dma q = csem kc) {sp sp' : Space} {s s' : Shape} {e e' : EltTy} {src : Memref sig .tc sp' s' e'} {dst : Memref sig .tc sp s e}
    {hsrc : src.view.WordExact} {hdst : dst.view.WordExact} (hN : dst.view.dmaCredit = kAmt kc)
    {α : Type} {Q : α → sProp 𝕄} {kk : PUnit → Prog (TpuEff nD τ sig (Elt F) Λ₀ .tc) α} (W : Waits sig Unit) :
    iprop(invAll m K ∗ (levAts L lv : sProp 𝕄) ∗ cred (tallyAt (kcell (c, kc)) () (kAmt kc)) ∗ owes (c : Thread nD τ) (Ow c k) W ∗ atPos ER (kcell (c, kc)) 0 ∅ 0)
      ⊢ iprop((((∃ W', owes (c : Thread nD τ) (Ow c k) W') ∗ semVal (kcell (c, kc)) 0 ∗ dmaPay m c kc.val)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  have hg : kcell (c, kc) = ((c : Thread nD τ), .dma q) := by rw [hq]; rfl
  iintro ⟨#HI, #Hl, Hc, HO, Hat⟩ Hk
  ihave #Hi := (inv_at m K (c, kc)) $$ HI
  rw [← hN, hg]
  iapply (Rounds.wp_wait_rest_token 𝒱₀ ER (Rd m) (c : Thread nD τ) none (κ := K (c, kc)) (sm := .dma q)
      (wpE_waitDma2_eq 𝒱₀ (c : Thread nD τ) none Set.univ) (Set.mem_univ _) () (O := Ow c k) (W := W) (R := 0) (m := 0) (T := ∅)
      (by rw [Nat.zero_add, ← hg, expect_dma m c kc hkc, hN])) $$ [Hc HO Hat]
  · isplitr; · iexact Hi
    isplitl [Hc]; · iexact Hc
    isplitl [HO]; · iexact HO
    isplitr; · rw [hq]; iapply (mayWait_of c (csem kc) k hlv); iexact Hl
    iexact Hat
  iintro ⟨HO, Hat, -, Hpay⟩
  rw [← hg]
  ihave Hp := (Entails.of_eq (rest_dma m c kc hkc)) $$ Hpay
  imod (Rounds.cell_close ER (Rd m) (Set.mem_univ (K (c, kc))) (fun h => h) (R := 0 + 1) (duties_later m (kcell (c, kc)))) $$ [Hat] with Hz
  · isplitr; · iexact Hi
    iexact Hat
  iapply Hk
  isplitl [HO]; · iexists _; iexact HO
  isplitl [Hz]; · iexact Hz
  iexact Hp

end Cert.KernelIdeal.Run

end
-- ==== Proof.Slots.lean ====
/-
  The scratch buffers held slot by slot and joined back; the magnitudes read as one buffer.
-/
module

public import proofs.«01_k».proof.Proof.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wb_inb (k : Fin 2) : ∀ a, (![k.val, 0, 0] : Fin 3 → ℕ) a + S1x1024x2048.size a ≤ S2x1024x2048.size a := by revert k; decide
/-- Slot `k` of the scratch the blocks of `w` are copied into. -/
abbrev wbV (k : Fin 2) : Memref sig .tc .vmem S1x1024x2048 .f32 :=
  (Memref.whole cc0_scratch3).slice (Rect.unit (s := S2x1024x2048) ![k.val, 0, 0] S1x1024x2048.size (wb_inb k)) (fun _ => rfl)

/-- Slots along the leading axis are disjoint, -/
theorem lead_disj {n p q : ℕ} (inb : ∀ k : Fin n, ∀ a, (![k.val, 0, 0] : Fin 3 → ℕ) a + (![1, p, q] : Fin 3 → ℕ) a ≤ (⟨3, ![n, p, q]⟩ : Shape).size a)
    (b b' : Fin n) (h : b ≠ b') : Disjoint (Rect.unit (s := ⟨3, ![n, p, q]⟩) ![b.val, 0, 0] ![1, p, q] (inb b)).set
      (Rect.unit (s := ⟨3, ![n, p, q]⟩) ![b'.val, 0, 0] ![1, p, q] (inb b')).set := by
  refine Rect.unit_disjoint (0 : Fin 3) ?_
  show b.val + 1 ≤ b'.val ∨ b'.val + 1 ≤ b.val
  have : b.val ≠ b'.val := fun e => h (Fin.ext e)
  omega
/-- and cover the buffer. -/
theorem lead_cover {n p q : ℕ} (inb : ∀ k : Fin n, ∀ a, (![k.val, 0, 0] : Fin 3 → ℕ) a + (![1, p, q] : Fin 3 → ℕ) a ≤ (⟨3, ![n, p, q]⟩ : Shape).size a) :
    Finset.univ.biUnion (fun k : Fin n => (Rect.unit (s := ⟨3, ![n, p, q]⟩) ![k.val, 0, 0] ![1, p, q] (inb k)).set) = Finset.univ := by
  refine Finset.eq_univ_of_forall fun i => Finset.mem_biUnion.mpr ⟨⟨(i 0).val, (i 0).isLt⟩, Finset.mem_univ _, Rect.mem_set_unit.mpr fun a => ?_⟩
  fin_cases a
  · exact ⟨Nat.le_refl _, Nat.lt_succ_self _⟩
  · exact ⟨Nat.zero_le _, lt_of_lt_of_eq (i 1).isLt (Nat.zero_add _).symm⟩
  · exact ⟨Nat.zero_le _, lt_of_lt_of_eq (i 2).isLt (Nat.zero_add _).symm⟩

def xsI (k : Fin 4) : Finset cc0_scratch1.ty.Idx := (xsV k).view.set
theorem xs_disj (b b' : Fin 4) (h : b ≠ b') : Disjoint (xsI b) (xsI b') := by
  rw [show xsI b = _ from View.set_slice_whole _ _, show xsI b' = _ from View.set_slice_whole _ _]
  exact lead_disj (n := 4) (p := 1024) (q := 1024) xs_inb b b' h
theorem xs_cover : Finset.univ.biUnion xsI = Finset.univ :=
  (Finset.biUnion_congr rfl fun k _ => View.set_slice_whole _ _).trans (lead_cover (n := 4) (p := 1024) (q := 1024) xs_inb)
def xgI (k : Fin 3) : Finset cc0_scratch2.ty.Idx := (xgV k).view.set
theorem xg_disj (b b' : Fin 3) (h : b ≠ b') : Disjoint (xgI b) (xgI b') := by
  rw [show xgI b = _ from View.set_slice_whole _ _, show xgI b' = _ from View.set_slice_whole _ _]
  exact lead_disj (n := 3) (p := 1024) (q := 1024) xg_inb b b' h
theorem xg_cover : Finset.univ.biUnion xgI = Finset.univ :=
  (Finset.biUnion_congr rfl fun k _ => View.set_slice_whole _ _).trans (lead_cover (n := 3) (p := 1024) (q := 1024) xg_inb)
def amI (k : Fin 4) : Finset cc0_scratch4.ty.Idx := (amV k).view.set
theorem am_disj (b b' : Fin 4) (h : b ≠ b') : Disjoint (amI b) (amI b') := by
  rw [show amI b = _ from View.set_slice_whole _ _, show amI b' = _ from View.set_slice_whole _ _]
  exact lead_disj (n := 4) (p := 8) (q := 128) am_inb b b' h
theorem am_cover : Finset.univ.biUnion amI = Finset.univ :=
  (Finset.biUnion_congr rfl fun k _ => View.set_slice_whole _ _).trans (lead_cover (n := 4) (p := 8) (q := 128) am_inb)
def wbI (k : Fin 2) : Finset cc0_scratch3.ty.Idx := (wbV k).view.set
theorem wb_disj (b b' : Fin 2) (h : b ≠ b') : Disjoint (wbI b) (wbI b') := by
  rw [show wbI b = _ from View.set_slice_whole _ _, show wbI b' = _ from View.set_slice_whole _ _]
  exact lead_disj (n := 2) (p := 1024) (q := 2048) wb_inb b b' h
theorem wb_cover : Finset.univ.biUnion wbI = Finset.univ :=
  (Finset.biUnion_congr rfl fun k _ => View.set_slice_whole _ _).trans (lead_cover (n := 2) (p := 1024) (q := 2048) wb_inb)

/-! ## At any contents -/

/-- A buffer of the device, whole at any contents. -/
def anyBuf (c : Dev nD) (b : Ref sig .tc) : sProp 𝕄 := iprop(∃ f, (c : Thread nD τ).loc b ↦{fullShare} f)
/-- Slot `k` of the copy scratch of `w`. -/
def wbAny (c : Dev nD) (k : Fin 2) : sProp 𝕄 := iprop(∃ f, (wbV k).view.loc (c : Thread nD τ) ↦[(wbV k).view.set]{fullShare} f)

theorem four_eq (P : Fin 4 → sProp 𝕄) : bigSep Finset.univ P = iprop(P 0 ∗ P 1 ∗ P 2 ∗ P 3) := by
  rw [bigSep_univ_eq_bigSepL [0, 1, 2, 3] (by decide) (by decide)]; rfl
theorem three_eq (P : Fin 3 → sProp 𝕄) : bigSep Finset.univ P = iprop(P 0 ∗ P 1 ∗ P 2) := by
  rw [bigSep_univ_eq_bigSepL [0, 1, 2] (by decide) (by decide)]; rfl
theorem two_eq (P : Fin 2 → sProp 𝕄) : bigSep Finset.univ P = iprop(P 0 ∗ P 1) := by
  rw [bigSep_univ_eq_bigSepL [0, 1] (by decide) (by decide)]; rfl

theorem xs_open (c : Dev nD) : anyBuf (F := F) c cc0_scratch1 ⊢ iprop(xsAny (F := F) c 0 ∗ xsAny (F := F) c 1 ∗ xsAny (F := F) c 2 ∗ xsAny (F := F) c 3) := by
  rw [← four_eq (fun k => xsAny (F := F) c k)]
  unfold anyBuf
  iintro ⟨%f, H⟩
  iapply ((Entails.of_eq (Ring.pointsTo_blocks (ℓ := (c : Thread nD τ).loc cc0_scratch1) xsI xs_disj xs_cover f)).trans (bigSep_mono (s := Finset.univ) (fun k _ => (show ((c : Thread nD τ).loc cc0_scratch1 ↦[xsI k]{fullShare} f : sProp 𝕄) ⊢ xsAny (F := F) c k from exists_intro f)))) $$ H
theorem xs_close (c : Dev nD) (f : Buf (Elt F) ((c : Thread nD τ).loc cc0_scratch1)) : iprop(xsAny (F := F) c 0 ∗ xsAny (F := F) c 1 ∗ xsAny (F := F) c 2 ∗ xsAny (F := F) c 3) ⊢ anyBuf (F := F) c cc0_scratch1 := by
  rw [← four_eq (fun k => xsAny (F := F) c k)]
  exact Ring.pointsTo_blocks_join_exists (ℓ := (c : Thread nD τ).loc cc0_scratch1) xsI xs_disj xs_cover f
theorem xg_open (c : Dev nD) : anyBuf (F := F) c cc0_scratch2 ⊢ iprop(xgAny (F := F) c 0 ∗ xgAny (F := F) c 1 ∗ xgAny (F := F) c 2) := by
  rw [← three_eq (fun k => xgAny (F := F) c k)]
  unfold anyBuf
  iintro ⟨%f, H⟩
  iapply ((Entails.of_eq (Ring.pointsTo_blocks (ℓ := (c : Thread nD τ).loc cc0_scratch2) xgI xg_disj xg_cover f)).trans (bigSep_mono (s := Finset.univ) (fun k _ => (show ((c : Thread nD τ).loc cc0_scratch2 ↦[xgI k]{fullShare} f : sProp 𝕄) ⊢ xgAny (F := F) c k from exists_intro f)))) $$ H
theorem xg_close (c : Dev nD) (f : Buf (Elt F) ((c : Thread nD τ).loc cc0_scratch2)) : iprop(xgAny (F := F) c 0 ∗ xgAny (F := F) c 1 ∗ xgAny (F := F) c 2) ⊢ anyBuf (F := F) c cc0_scratch2 := by
  rw [← three_eq (fun k => xgAny (F := F) c k)]
  exact Ring.pointsTo_blocks_join_exists (ℓ := (c : Thread nD τ).loc cc0_scratch2) xgI xg_disj xg_cover f
theorem am_open (c : Dev nD) : anyBuf (F := F) c cc0_scratch4 ⊢ iprop(amAny (F := F) c 0 ∗ amAny (F := F) c 1 ∗ amAny (F := F) c 2 ∗ amAny (F := F) c 3) := by
  rw [← four_eq (fun k => amAny (F := F) c k)]
  unfold anyBuf
  iintro ⟨%f, H⟩
  iapply ((Entails.of_eq (Ring.pointsTo_blocks (ℓ := (c : Thread nD τ).loc cc0_scratch4) amI am_disj am_cover f)).trans (bigSep_mono (s := Finset.univ) (fun k _ => (show ((c : Thread nD τ).loc cc0_scratch4 ↦[amI k]{fullShare} f : sProp 𝕄) ⊢ amAny (F := F) c k from exists_intro f)))) $$ H
theorem am_close (c : Dev nD) (f : Buf (Elt F) ((c : Thread nD τ).loc cc0_scratch4)) : iprop(amAny (F := F) c 0 ∗ amAny (F := F) c 1 ∗ amAny (F := F) c 2 ∗ amAny (F := F) c 3) ⊢ anyBuf (F := F) c cc0_scratch4 := by
  rw [← four_eq (fun k => amAny (F := F) c k)]
  exact Ring.pointsTo_blocks_join_exists (ℓ := (c : Thread nD τ).loc cc0_scratch4) amI am_disj am_cover f
theorem wb_open (c : Dev nD) : anyBuf (F := F) c cc0_scratch3 ⊢ iprop(wbAny (F := F) c 0 ∗ wbAny (F := F) c 1) := by
  rw [← two_eq (fun k => wbAny (F := F) c k)]
  unfold anyBuf
  iintro ⟨%f, H⟩
  iapply ((Entails.of_eq (Ring.pointsTo_blocks (ℓ := (c : Thread nD τ).loc cc0_scratch3) wbI wb_disj wb_cover f)).trans (bigSep_mono (s := Finset.univ) (fun k _ => (show ((c : Thread nD τ).loc cc0_scratch3 ↦[wbI k]{fullShare} f : sProp 𝕄) ⊢ wbAny (F := F) c k from exists_intro f)))) $$ H
theorem wb_close (c : Dev nD) (f : Buf (Elt F) ((c : Thread nD τ).loc cc0_scratch3)) : iprop(wbAny (F := F) c 0 ∗ wbAny (F := F) c 1) ⊢ anyBuf (F := F) c cc0_scratch3 := by
  rw [← two_eq (fun k => wbAny (F := F) c k)]
  exact Ring.pointsTo_blocks_join_exists (ℓ := (c : Thread nD τ).loc cc0_scratch3) wbI wb_disj wb_cover f

/-! ## The magnitudes -/

/-- The tile of slot `k`, of a share, is the slot of the whole buffer of magnitudes. -/
theorem tile_read (c : Dev nD) (k : Fin 4) : (amV k).view.read (Elt F) (amAll m c) = tile m (rel c (3 - k.val)) := by
  funext j
  have h : (j 0).val = 0 := Nat.lt_one_iff.mp (j 0).isLt
  show am m (rel c (3 - (k.val + 1 * (j 0).val))) = am m (rel c (3 - k.val))
  rw [h, Nat.mul_zero, Nat.add_zero]
theorem rep_pts {sp : Space} {sh : Shape} {e : EltTy} (c : Dev nD) (M : Memref sig .tc sp sh e) (q : PosShare TreeShare) (g : M.view.ty.Contents (Elt F))
    (X : sh.Idx → Elt F e) (h : M.view.read (Elt F) g = X) :
    (M.view.loc (c : Thread nD τ) ↦[M.view.set]{q} M.view.rep X : sProp 𝕄) = (M.view.loc (c : Thread nD τ) ↦[M.view.set]{q} g) := by
  refine pointsTo_congr fun i hi => ?_
  obtain ⟨j, -, rfl⟩ := Finset.mem_map.mp hi
  have h1 := congrFun (View.read_rep (Val := Elt F) M.view X) j
  have h2 := congrFun h j
  exact eq_of_heq (by simpa [View.read] using h1.trans h2.symm)
theorem amAt_eq (c : Dev nD) (k : Fin 4) (q : PosShare TreeShare) :
    amAt c k q (tile m (rel c (3 - k.val))) = ((c : Thread nD τ).loc cc0_scratch4 ↦[amI k]{q} amAll m c : sProp 𝕄) :=
  rep_pts c (amV k) q (amAll m c) _ (tile_read m c k)
/-- The four tiles at one share are the buffer of magnitudes at that share. -/
theorem tiles_whole (c : Dev nD) (q : PosShare TreeShare) :
    iprop(amAt c 0 q (tile m (rel c 3)) ∗ amAt c 1 q (tile m (rel c 2)) ∗ amAt c 2 q (tile m (rel c 1)) ∗ amAt c 3 q (tile m c))
      = ((Memref.whole cc0_scratch4).view.loc (c : Thread nD τ) ↦[(Memref.whole cc0_scratch4).view.set]{q} amAll m c : sProp 𝕄) := by
  have h3 : tile m c = tile m (rel c (3 - (3 : Fin 4).val)) := congrArg (tile m) (rel_zero c).symm
  have e0 := amAt_eq m c 0 q
  have e1 := amAt_eq m c 1 q
  have e2 := amAt_eq m c 2 q
  have e3 := amAt_eq m c 3 q
  rw [← h3] at e3
  have e : ((c : Thread nD τ).loc cc0_scratch4 ↦{q} amAll m c : sProp 𝕄) = bigSep Finset.univ fun k => (c : Thread nD τ).loc cc0_scratch4 ↦[amI k]{q} amAll m c :=
    Ring.pointsTo_blocks (ℓ := (c : Thread nD τ).loc cc0_scratch4) amI am_disj am_cover (q := q) (amAll m c)
  rw [four_eq, ← e3] at e
  refine Eq.trans ?_ (e.symm.trans ?_)
  · rw [← e0, ← e1, ← e2]; rfl
  · rw [View.set_whole]
/-- A tile at the full share is a part kept and three lent. -/
theorem tile_split (c : Dev nD) (k : Fin 4) (X : FVec F S1x8x128 .f32) :
    amAt c k fullShare X ⊣⊢ iprop(amAt c k aqKept X ∗ amAt c k (aq 0) X ∗ amAt c k (aq 1) X ∗ amAt c k (aq 2) X) := by
  have h : (amAt c k fullShare X : sProp 𝕄) ⊣⊢ iprop(amAt c k aqKept X ∗ bigSep (Finset.range 3) fun i => amAt c k (Transfers.shareTokN fullShare i) X) :=
    Transfers.pointsTo_toks_range fullShare 3
  rw [bigSep_eq_bigSepL_of_eq [0, 1, 2] (by decide) (by decide)] at h
  exact h

end Cert.KernelIdeal.Run

end
-- ==== Proof.Vals.lean ====
/-
  What the body's loads read, stated apart from the run.
-/
module

public import proofs.«01_k».proof.Proof.Slots

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A slot filled through its squeezed view reads, as a slot, what filled it. -/
theorem read_filled {sp : Space} {s : Shape} {e : EltTy} (M : Memref sig .tc sp s e) (r : Rect s) (h : ∀ a, r.stride a = 1) (s' : Shape)
    (hsq : r.shape.Squeezes s') (f : M.view.ty.Contents (Elt F)) (X : s'.Idx → Elt F e) (hc : s'.ShapeCasts r.shape) :
    View.readAt (Elt F) M.view r.toLoadRect (View.write (Elt F) ((M.slice r h).squeeze s' hsq).view f X Finset.univ) = shapeCast r.shape X hc := by
  have hr := View.read_write_univ (Val := Elt F) (v := ((M.slice r h).squeeze s' hsq).view) f X
  funext j
  have hj := congrFun hr (Shape.reshapeEquiv hc j)
  rw [show shapeCast r.shape X hc j = X (Shape.reshapeEquiv hc j) from rfl, ← hj]
  have hi : Shape.reshapeEquiv hsq.numel_eq (Shape.reshapeEquiv hc j) = j := by
    rw [Shape.reshapeEquiv_reshapeEquiv, Shape.reshapeEquiv_self]
  show (M.view.slice r).read (Elt F) _ j = (M.view.slice r).read (Elt F) _ (Shape.reshapeEquiv hsq.numel_eq (Shape.reshapeEquiv hc j))
  rw [hi]

/-- A block of `x` named by its offsets; -/
theorem xblk_of (c j : Dev nD) (off : Fin 2 → ℕ) (inb) (h) (e : off = ![1024 * j.val, 0]) :
    ReadAs.same.apply (View.read (Elt F) ((Memref.whole main_arg0).slice (Rect.unit (s := S4096x1024) off S1024x1024.size inb) h).view
      (m ((c : Thread nD τ).loc main_arg0))) = xblk m c j := by
  subst e; rfl
/-- and one of `w`. -/
theorem wblk_of (c k : Dev nD) (n : Fin 4) (off : Fin 2 → ℕ) (inb) (h) (e : off = ![1024 * k.val, 2048 * n.val]) :
    ReadAs.same.apply (View.read (Elt F) ((Memref.whole main_arg1).slice (Rect.unit (s := S4096x8192) off S1024x2048.size inb) h).view
      (m ((c : Thread nD τ).loc main_arg1))) = wblk m c k n := by
  subst e; rfl

/-- The whole copy scratch, loaded after a copy filled it. -/
theorem xstage_load (X : S1024x1024.Idx → Elt F .f32) (L) :
    (Memref.whole cc0_scratch0).view.readCov (Val := Elt F) (⟨Rect.whole cc0_scratch0.ty.shape, X⟩ :: L)
      (Rect.unit (s := S1024x1024) ![0, 0] S1024x1024.size inb_S1024x1024_S1024x1024_0_0).toLoadRect = X :=
  View.readCov_full (s := S1024x1024) (Memref.whole cc0_scratch0).view _ _ X L

/-- Blocks of columns side by side. -/
def besideN (i : S1024x8192.Idx) : Fin 4 := ⟨(i 1).val / 2048, Nat.div_lt_of_lt_mul (i 1).isLt⟩
def besideX (i : S1024x8192.Idx) : S1024x2048.Idx :=
  Fin.cons (α := fun a => Fin (![1024, 2048] a)) (i 0) (Fin.cons ⟨(i 1).val % 2048, Nat.mod_lt _ (by decide)⟩ fun a => a.elim0)
def beside (P : Fin 4 → S1024x2048.Idx → Elt F .bf16) : S1024x8192.Idx → Elt F .bf16 := fun i => P (besideN i) (besideX i)
theorem beside_col (i : S1024x8192.Idx) : (i (1 : Fin 2)).val = 2048 * (besideN i).val + (besideX i (1 : Fin 2)).val := (Nat.div_add_mod _ _).symm
theorem beside_lt (i : S1024x8192.Idx) : (besideX i (1 : Fin 2)).val < 2048 := Nat.mod_lt _ (by decide)
theorem beside_row (i : S1024x8192.Idx) : (i (0 : Fin 2)).val = (besideX i (0 : Fin 2)).val := rfl

theorem four_reads {κ : Kind} {sp : Space} (v : View sig κ sp S1024x8192 .bf16) (f : v.ty.Contents (Elt F)) (P : Fin 4 → S1024x2048.Idx → Elt F .bf16)
    (L : List (View.Piece (Elt F) S1024x8192 .bf16)) (y : S1024x8192.Idx) (x : S1024x2048.Idx) (n : Fin 4)
    (h0 : (y (0 : Fin 2)).val = (x (0 : Fin 2)).val) (h1 : (y (1 : Fin 2)).val = 2048 * n.val + (x (1 : Fin 2)).val) (hx : (x (1 : Fin 2)).val < 2048) :
    v.read (Elt F) (v.writes (Elt F) f
      (⟨Rect.unit (s := S1024x8192) ![0, 6144] S1024x2048.size inb_S1024x8192_S1024x2048_0_6144, P 3⟩ ::
       ⟨Rect.unit (s := S1024x8192) ![0, 4096] S1024x2048.size inb_S1024x8192_S1024x2048_0_4096, P 2⟩ ::
       ⟨Rect.unit (s := S1024x8192) ![0, 2048] S1024x2048.size inb_S1024x8192_S1024x2048_0_2048, P 1⟩ ::
       ⟨Rect.unit (s := S1024x8192) ![0, 0] S1024x2048.size inb_S1024x8192_S1024x2048_0_0, P 0⟩ :: L)) y = P n x := by
  have hm : ∀ k : ℕ, k = n.val → ∀ a : Fin 2, (y a).val = (![0, 2048 * k] : Fin 2 → ℕ) a + (x a).val := fun k hk => by
    subst hk
    exact Fin.forall_fin_two.mpr ⟨h0.trans (Nat.zero_add _).symm, h1⟩
  have hlt : ∀ b : ℕ, 2048 * n.val + 2048 ≤ b → (y (1 : Fin 2)).val < b := fun b hb => by omega
  match n, hm, hlt with
  | 3, hm, hlt => exact View.read_writes_cons_unit_of_mem v f _ _ _ y x rfl (hm 3 rfl)
  | 2, hm, hlt =>
    exact (View.read_writes_cons_unit_of_not_mem v f _ _ _ y rfl (1 : Fin 2) (Or.inl (hlt 6144 (Nat.le_refl _)))).trans
      (View.read_writes_cons_unit_of_mem v f _ _ _ y x rfl (hm 2 rfl))
  | 1, hm, hlt =>
    exact (View.read_writes_cons_unit_of_not_mem v f _ _ _ y rfl (1 : Fin 2) (Or.inl (hlt 6144 (by decide)))).trans
      ((View.read_writes_cons_unit_of_not_mem v f _ _ _ y rfl (1 : Fin 2) (Or.inl (hlt 4096 (Nat.le_refl _)))).trans
      (View.read_writes_cons_unit_of_mem v f _ _ _ y x rfl (hm 1 rfl)))
  | 0, hm, hlt =>
    exact (View.read_writes_cons_unit_of_not_mem v f _ _ _ y rfl (1 : Fin 2) (Or.inl (hlt 6144 (by decide)))).trans
      ((View.read_writes_cons_unit_of_not_mem v f _ _ _ y rfl (1 : Fin 2) (Or.inl (hlt 4096 (by decide)))).trans
      ((View.read_writes_cons_unit_of_not_mem v f _ _ _ y rfl (1 : Fin 2) (Or.inl (hlt 2048 (Nat.le_refl _)))).trans
      (View.read_writes_cons_unit_of_mem v f _ _ _ y x rfl (hm 0 rfl))))

theorem four_stores {κ : Kind} {sp : Space} (v : View sig κ sp S1024x8192 .bf16) (f : v.ty.Contents (Elt F)) (P : Fin 4 → S1024x2048.Idx → Elt F .bf16)
    (L : List (View.Piece (Elt F) S1024x8192 .bf16)) :
    v.read (Elt F) (v.writes (Elt F) f
      (⟨Rect.unit (s := S1024x8192) ![0, 6144] S1024x2048.size inb_S1024x8192_S1024x2048_0_6144, P 3⟩ ::
       ⟨Rect.unit (s := S1024x8192) ![0, 4096] S1024x2048.size inb_S1024x8192_S1024x2048_0_4096, P 2⟩ ::
       ⟨Rect.unit (s := S1024x8192) ![0, 2048] S1024x2048.size inb_S1024x8192_S1024x2048_0_2048, P 1⟩ ::
       ⟨Rect.unit (s := S1024x8192) ![0, 0] S1024x2048.size inb_S1024x8192_S1024x2048_0_0, P 0⟩ :: L)) = beside P :=
  funext fun i => four_reads v f P L i (besideX i) (besideN i) (beside_row i) (beside_col i) (beside_lt i)

/-- A load of one block of columns passes over a store of another. -/
theorem cov_skip {κ : Kind} {sp : Space} (v : View sig κ sp S1024x8192 .bf16) {o o' : Fin 2 → ℕ} (inb) (inb') (w) (L : List (View.Piece (Elt F) S1024x8192 .bf16))
    (h : o 1 + 2048 ≤ o' 1 ∨ o' 1 + 2048 ≤ o 1) :
    v.readCov (Val := Elt F) (⟨Rect.unit (s := S1024x8192) o S1024x2048.size inb, w⟩ :: L) (Rect.unit (s := S1024x8192) o' S1024x2048.size inb').toLoadRect
      = v.readCov L (Rect.unit (s := S1024x8192) o' S1024x2048.size inb').toLoadRect :=
  View.readCov_cons_of_disjoint v ⟨Rect.unit (s := S1024x8192) o S1024x2048.size inb, w⟩ L _
    (Rect.unit_disjoint (s := S1024x8192) (inb := inb) (inb' := inb') (1 : Fin 2) h)

end Cert.KernelIdeal.Run

end
-- ==== Proof.Body.lean ====
/-
  The body at a symbolic device, run from its slots, tokens and credit to the stored result.
-/
module

public import proofs.«01_k».proof.Proof.Vals

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- What device `c` holds of slot `s`: the five duties it pays there, its positions on its four cells there, and its credit on
    the two arrivals. -/
def slotGhost (c : Dev nD) (s : Fin 3) : sProp 𝕄 :=
  iprop(dutyTok ER (barCell (rel c (3 - s.val))) 0 s
    ∗ dutyTok ER (kcell (c, kSnd s)) 0 0 ∗ dutyTok ER (kcell (rel c (s.val + 1), kRcv s)) 0 0
    ∗ dutyTok ER (kcell (c, kASnd s)) 0 0 ∗ dutyTok ER (kcell (rel c (s.val + 1), kARcv s)) 0 0
    ∗ atPos ER (kcell (c, kSnd s)) 0 ∅ 0 ∗ atPos ER (kcell (c, kRcv s)) 0 ∅ 0
    ∗ atPos ER (kcell (c, kASnd s)) 0 ∅ 0 ∗ atPos ER (kcell (c, kARcv s)) 0 ∅ 0
    ∗ cred (tallyAt (kcell (c, kRcv s)) () (kAmt (kRcv s))) ∗ cred (tallyAt (kcell (c, kARcv s)) () (kAmt (kARcv s))))

/-- The three semaphores of its own copies, at zero. -/
def localSems (c : Dev nD) : sProp 𝕄 :=
  iprop(semVal ((c : Thread nD τ), .dma (dq 13)) 0 ∗ semVal ((c : Thread nD τ), .dma (dq 14)) 0 ∗ semVal ((c : Thread nD τ), .dma (dq 15)) 0)

/-- A buffer of the device, whole. -/
abbrev bufAt {sp : Space} {s : Shape} {e : EltTy} (c : Dev nD) (M : Memref sig .tc sp s e) (f : M.view.ty.Contents (Elt F)) : sProp 𝕄 :=
  M.view.loc (c : Thread nD τ) ↦[M.view.set]{fullShare} f

/-- A buffer of the device, whole, at a share. -/
abbrev bufAtQ {sp : Space} {s : Shape} {e : EltTy} (c : Dev nD) (M : Memref sig .tc sp s e) (q : PosShare TreeShare) (f : M.view.ty.Contents (Elt F)) : sProp 𝕄 :=
  M.view.loc (c : Thread nD τ) ↦[M.view.set]{q} f

/-- The two slots the blocks of `w` are copied into. -/
abbrev wV0 : Memref sig .tc .vmem S1x1024x2048 .f32 :=
  (Memref.whole cc0_scratch3).slice (Rect.unit (s := S2x1024x2048) ![0, 0, 0] S1x1024x2048.size inb_S2x1024x2048_S1x1024x2048_0_0_0) (fun _ => rfl)
abbrev wV1 : Memref sig .tc .vmem S1x1024x2048 .f32 :=
  (Memref.whole cc0_scratch3).slice (Rect.unit (s := S2x1024x2048) ![1, 0, 0] S1x1024x2048.size inb_S2x1024x2048_S1x1024x2048_1_0_0) (fun _ => rfl)

abbrev wSem0 : DmaSem sig := ((cc0_scratch9.slice (Rect.unit (s := S2) ![0] S1.size inb_S2_S1_0)).squeeze S_ squeezes_S1_S_).sem
abbrev wSem1 : DmaSem sig := ((cc0_scratch9.slice (Rect.unit (s := S2) ![1] S1.size inb_S2_S1_1)).squeeze S_ squeezes_S1_S_).sem
abbrev xSem : DmaSem sig := cc0_scratch10.sem

/-- The last slot of the magnitudes, opened. -/
theorem amAny_three (c : Dev nD) : amAny (F := F) c 3
    = iprop(∃ f, (amV 3).view.loc (c : Thread nD τ) ↦[(amV 3).view.set]{fullShare} f) := rfl

/-- What the body leaves: nothing owed, the arguments, the result, the scratch at any contents, every semaphore at zero. -/
def bodyOut (c : Dev nD) : sProp 𝕄 :=
  iprop((∃ W, owes (c : Thread nD τ) (Ow c 0) W)
    ∗ bufAt c (Memref.whole main_arg0) (m ((c : Thread nD τ).loc main_arg0))
    ∗ bufAtQ c (Memref.whole main_arg1) (Transfers.shareTokN fullShare 13) (m ((c : Thread nD τ).loc main_arg1))
    ∗ bufAtQ c (Memref.whole main_arg1) (Transfers.shareTokN fullShare 14) (m ((c : Thread nD τ).loc main_arg1))
    ∗ bufAt c (Memref.whole cc0_stg0_0) (beside (outq m c))
    ∗ (∃ f, bufAt c (Memref.whole cc0_scratch0) f) ∗ anyBuf (F := F) c cc0_scratch1 ∗ anyBuf (F := F) c cc0_scratch2
    ∗ anyBuf (F := F) c cc0_scratch3 ∗ anyBuf (F := F) c cc0_scratch4
    ∗ (bigSep Finset.univ fun k : Fin 13 => semVal (kcell (c, k)) 0) ∗ localSems (F := F) c)

theorem amAt_any (c : Dev nD) (k : Fin 4) (X : FVec F S1x8x128 .f32) : amAt c k fullShare X ⊢ amAny (F := F) c k := by
  unfold amAt amAny; iintro H; iexists _; iexact H
theorem sems_eq (P : Fin 13 → sProp 𝕄) : bigSep Finset.univ P
    = iprop(P 0 ∗ P 1 ∗ P 2 ∗ P 3 ∗ P 4 ∗ P 5 ∗ P 6 ∗ P 7 ∗ P 8 ∗ P 9 ∗ P 10 ∗ P 11 ∗ P 12) := by
  rw [bigSep_univ_eq_bigSepL [0, 1, 2, 3, 4, 5, 6, 7, 8, 9, 10, 11, 12] (by decide) (by decide)]; rfl

set_option maxHeartbeats 2000000 in
theorem body_run (c : Dev nD) (fo : cc0_stg0_0.ty.Contents (Elt F)) (fx : cc0_scratch0.ty.Contents (Elt F)) (fw0 : wV0.view.ty.Contents (Elt F)) (fw1 : wV1.view.ty.Contents (Elt F)) :
    iprop((invAll m K ∗ rchAll (F := F) ∗ levAts L lv ∗ slotGhost c 0 ∗ slotGhost c 1 ∗ slotGhost c 2
        ∗ atPos ER (barCell c) 0 ∅ 0 ∗ cred (tallyAt (barCell c) () 3)
        ∗ localSems (F := F) c
        ∗ bufAt c (Memref.whole main_arg0) (m ((c : Thread nD τ).loc main_arg0))
        ∗ bufAtQ c (Memref.whole main_arg1) (Transfers.shareTokN fullShare 13) (m ((c : Thread nD τ).loc main_arg1))
        ∗ bufAtQ c (Memref.whole main_arg1) (Transfers.shareTokN fullShare 14) (m ((c : Thread nD τ).loc main_arg1))
        ∗ bufAt c (Memref.whole cc0_stg0_0) fo ∗ bufAt c (Memref.whole cc0_scratch0) fx ∗ bufAt c wV0 fw0 ∗ bufAt c wV1 fw1
        ∗ (xsAny (F := F) c 0 ∗ xsAny (F := F) c 1 ∗ xsAny (F := F) c 2 ∗ xsAny (F := F) c 3)
        ∗ (xgAny (F := F) c 0 ∗ xgAny (F := F) c 1 ∗ xgAny (F := F) c 2)
        ∗ (amAny (F := F) c (up 0) ∗ amAny (F := F) c (up 1) ∗ amAny (F := F) c (up 2) ∗ amAny (F := F) c 3)
        ∗ ∃ W, owes (c : Thread nD τ) (Ow c 9) W) ∗ True)
      ⊢ wp frame (wpE (defs₀ (F := F)) 𝒱₀ (c : Thread nD τ) none) Set.univ
          (cc0_body (Memref.whole main_arg0) (Memref.isWhole_whole _) (Memref.whole main_arg1) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10) (fun _ => bodyOut m c) := by
  simp only [cc0_body_eq_skeleton]; unfold cc0_body_skel
  unfold slotGhost localSems xsAny bufAt bufAtQ
  iintro ⟨⟨#HI, #HR, #Hl, ⟨Htb0, Hts0, Htr0, Htu0, Htv0, Has0, Har0, Hau0, Hav0, Hcr0, Hcv0⟩, ⟨Htb1, Hts1, Htr1, Htu1, Htv1, Has1, Har1, Hau1, Hav1, Hcr1, Hcv1⟩,
    ⟨Htb2, Hts2, Htr2, Htu2, Htv2, Has2, Har2, Hau2, Hav2, Hcr2, Hcv2⟩, Hab, Hcb, ⟨Hz0, Hz1, Hz2⟩, Hx, Hw13, Hw14, Hout, Hxst, Hwb0, Hwb1,
    ⟨⟨%fs0, Hs0⟩, ⟨%fs1, Hs1⟩, ⟨%fs2, Hs2⟩, ⟨%fs3, Hs3⟩⟩, ⟨Hg0, Hg1, Hg2⟩, ⟨Ha0, Ha1, Ha2, Ha3⟩, ⟨%W, HO⟩⟩, -⟩
  ihave Ha3 := (Entails.of_eq (amAny_three (F := F) c)) $$ Ha3
  icases Ha3 with ⟨%fa3, Ha3⟩
  ihave Hz0 : semVal ((c : Thread nD τ), .dma wSem0) 0 $$ [Hz0]
  · iexact Hz0
  ihave Hz1 : semVal ((c : Thread nD τ), .dma wSem1) 0 $$ [Hz1]
  · iexact Hz1
  ihave Hz2 : semVal ((c : Thread nD τ), .dma xSem) 0 $$ [Hz2]
  · iexact Hz2
  have hmw : ∀ (q : DmaSem sig) (k : ℕ), lvS (.dma q) = 0 → k ≤ 9 → ((levAts L lv : sProp 𝕄) ⊢ MayWait (c : Thread nD τ) (.dma q) () (Ow c k)) :=
    fun q k h hk => mayWait_local c q k h hk
  have hw0 : lvS (.dma wSem0) = 0 := by decide
  have hw1 : lvS (.dma wSem1) = 0 := by decide
  have hw2 : lvS (.dma xSem) = 0 := by decide
  sl_exec
  -- the three signals
  iapply (wp_sig m K c _ 2 8 rfl (dev1_eq c) (b := (SemArray.scalar (sig.barrier 0 rfl)).sem) rfl (v := (1#32).toInt) (by decide) W) $$ [HO Htb2 Hg2 Ha2]
  · isplitr; · iexact HI
    isplitr; · iexact HR
    isplitl [HO]; · iexact HO
    isplitl [Htb2]; · iexact Htb2
    isplitl [Hg2]; · iexact Hg2
    iexact Ha2
  iintro HO
  sl_exec
  iapply (wp_sig m K c _ 1 7 rfl (dev2_eq c) (b := (SemArray.scalar (sig.barrier 0 rfl)).sem) rfl (v := (1#32).toInt) (by decide) W) $$ [HO Htb1 Hg1 Ha1]
  · isplitr; · iexact HI
    isplitr; · iexact HR
    isplitl [HO]; · iexact HO
    isplitl [Htb1]; · iexact Htb1
    isplitl [Hg1]; · iexact Hg1
    iexact Ha1
  iintro HO
  sl_exec
  iapply (wp_sig m K c _ 0 6 rfl (dev3_eq c) (b := (SemArray.scalar (sig.barrier 0 rfl)).sem) rfl (v := (1#32).toInt) (by decide) W) $$ [HO Htb0 Hg0 Ha0]
  · isplitr; · iexact HI
    isplitr; · iexact HR
    isplitl [HO]; · iexact HO
    isplitl [Htb0]; · iexact Htb0
    isplitl [Hg0]; · iexact Hg0
    iexact Ha0
  iintro HO
  sl_exec
  -- the wait on the entry barrier
  iapply (wp_waitb m K c (b := (SemArray.scalar (sig.barrier 0 rfl)).sem) rfl (by decide) W) $$ [HO Hcb Hab]
  · isplitr; · iexact HI
    isplitr; · iexact Hl
    isplitl [Hcb]; · iexact Hcb
    isplitl [HO]; · iexact HO
    iexact Hab
  unfold barPay
  iintro ⟨⟨%W1, HO⟩, Hzb, ⟨Hg0, Ha0, -, -⟩, ⟨Hg1, Ha1, -, -⟩, ⟨Hg2, Ha2, -, -⟩⟩
  sl_exec
  -- the three blocks of `x` sent
  ihave HO : iprop(∃ W, owes (c : Thread nD τ) (Ow c 6) W) $$ [HO]
  · iexists _; iexact HO
  icases HO with ⟨%Was0, HO⟩
  have e_v93 : body_run.sl.v93 m c = xblk m c c := (xstage_load _ _).trans (xblk_of m c c _ _ _ (off1_eq c))
  have e_v130 : body_run.sl.v130 m c = xblk m c (rel c 1) := (xstage_load _ _).trans (xblk_of m c (rel c 1) _ _ _ (off4_eq c))
  have hs0 : (xsV (up 0)).view.read (Elt F) (body_run.sl.Hs0_w3 m c fs0) = xr m c (rel c (0 + 1)) := by
    refine (View.read_write_univ (Val := Elt F) (v := (xsV (up 0)).view) fs0 _).trans ?_
    rw [e_v130]; rfl
  iapply (wp_sendx m K c ⟨k0_dev4 c, k0_dev4_lt c⟩ 0 5 rfl (dev4_eq c) rfl rfl rfl rfl Was0 _ hs0) $$ [HO Hts0 Htr0 Hs0 Hg0]
  · isplitr; · iexact HI
    isplitr; · iexact HR
    isplitl [HO]; · iexact HO
    isplitl [Hts0]; · iexact Hts0
    isplitl [Htr0]; · iexact Htr0
    isplitl [Hs0]; · iexact Hs0
    iexact Hg0
  iintro ⟨Hcs0, HO⟩
  sl_exec
  ihave HO : iprop(∃ W, owes (c : Thread nD τ) (Ow c 5) W) $$ [HO]
  · iexists _; iexact HO
  icases HO with ⟨%Was1, HO⟩
  have e_v186 : body_run.sl.v186 m c = xblk m c (rel c 2) := (xstage_load _ _).trans (xblk_of m c (rel c 2) _ _ _ (off6_eq0 c))
  have hs1 : (xsV (up 1)).view.read (Elt F) (body_run.sl.Hs1_w2 m c fs1) = xr m c (rel c (1 + 1)) := by
    refine (View.read_write_univ (Val := Elt F) (v := (xsV (up 1)).view) fs1 _).trans ?_
    rw [e_v186]; rfl
  iapply (wp_sendx m K c ⟨k0_dev5 c, k0_dev5_lt c⟩ 1 4 rfl (dev5_eq c) rfl rfl rfl rfl Was1 _ hs1) $$ [HO Hts1 Htr1 Hs1 Hg1]
  · isplitr; · iexact HI
    isplitr; · iexact HR
    isplitl [HO]; · iexact HO
    isplitl [Hts1]; · iexact Hts1
    isplitl [Htr1]; · iexact Htr1
    isplitl [Hs1]; · iexact Hs1
    iexact Hg1
  iintro ⟨Hcs1, HO⟩
  sl_exec
  ihave HO : iprop(∃ W, owes (c : Thread nD τ) (Ow c 4) W) $$ [HO]
  · iexists _; iexact HO
  icases HO with ⟨%Was2, HO⟩
  have e_v242 : body_run.sl.v242 m c = xblk m c (rel c 3) := (xstage_load _ _).trans (xblk_of m c (rel c 3) _ _ _ (off6_eq1 c))
  have hs2 : (xsV (up 2)).view.read (Elt F) (body_run.sl.Hs2_w2 m c fs2) = xr m c (rel c (2 + 1)) := by
    refine (View.read_write_univ (Val := Elt F) (v := (xsV (up 2)).view) fs2 _).trans ?_
    delta body_run.sl.v246 body_run.sl.r_2
    rw [e_v242]; rfl
  iapply (wp_sendx m K c ⟨k0_dev6 c, k0_dev6_lt c⟩ 2 3 rfl (dev6_eq c) rfl rfl rfl rfl Was2 _ hs2) $$ [HO Hts2 Htr2 Hs2 Hg2]
  · isplitr; · iexact HI
    isplitr; · iexact HR
    isplitl [HO]; · iexact HO
    isplitl [Hts2]; · iexact Hts2
    isplitl [Htr2]; · iexact Htr2
    isplitl [Hs2]; · iexact Hs2
    iexact Hg2
  iintro ⟨Hcs2, HO⟩
  sl_exec
  -- the block in slot 0 has arrived
  ihave HO : iprop(∃ W, owes (c : Thread nD τ) (Ow c 3) W) $$ [HO]
  · iexists _; iexact HO
  icases HO with ⟨%WakRcv0, HO⟩
  iapply (wp_waitd m K c (kRcv 0) (kRcv_ne 0) 3 (by decide) (q := ((cc0_scratch6.slice (Rect.unit (s := S3) ![0] S1.size inb_S3_S1_0)).squeeze S_ squeezes_S1_S_).sem) rfl (by decide) WakRcv0) $$ [HO Hcr0 Har0]
  · isplitr; · iexact HI
    isplitr; · iexact Hl
    isplitl [Hcr0]; · iexact Hcr0
    isplitl [HO]; · iexact HO
    iexact Har0
  iintro ⟨⟨%WbkRcv0, HO⟩, HzkRcv0, Hg0⟩
  ihave Hg0 := (Entails.of_eq (show dmaPay m c (kRcv 0).val = ((xgV 0).view.loc (c : Thread nD τ) ↦[(xgV 0).view.set]{fullShare} (xgV 0).view.rep (xr m (rel c 3) c) : sProp 𝕄) from rfl)) $$ Hg0
  sl_exec
  -- the block in slot 2 has arrived
  ihave HO : iprop(∃ W, owes (c : Thread nD τ) (Ow c 3) W) $$ [HO]
  · iexists _; iexact HO
  icases HO with ⟨%WakRcv2, HO⟩
  iapply (wp_waitd m K c (kRcv 2) (kRcv_ne 2) 3 (by decide) (q := ((cc0_scratch6.slice (Rect.unit (s := S3) ![2] S1.size inb_S3_S1_2)).squeeze S_ squeezes_S1_S_).sem) rfl (by decide) WakRcv2) $$ [HO Hcr2 Har2]
  · isplitr; · iexact HI
    isplitr; · iexact Hl
    isplitl [Hcr2]; · iexact Hcr2
    isplitl [HO]; · iexact HO
    iexact Har2
  iintro ⟨⟨%WbkRcv2, HO⟩, HzkRcv2, Hg2⟩
  ihave Hg2 := (Entails.of_eq (show dmaPay m c (kRcv 2).val = ((xgV 2).view.loc (c : Thread nD τ) ↦[(xgV 2).view.set]{fullShare} (xgV 2).view.rep (xr m (rel c 1) c) : sProp 𝕄) from rfl)) $$ Hg2
  sl_exec
  -- the block in slot 1 has arrived
  ihave HO : iprop(∃ W, owes (c : Thread nD τ) (Ow c 3) W) $$ [HO]
  · iexists _; iexact HO
  icases HO with ⟨%WakRcv1, HO⟩
  iapply (wp_waitd m K c (kRcv 1) (kRcv_ne 1) 3 (by decide) (q := ((cc0_scratch6.slice (Rect.unit (s := S3) ![1] S1.size inb_S3_S1_1)).squeeze S_ squeezes_S1_S_).sem) rfl (by decide) WakRcv1) $$ [HO Hcr1 Har1]
  · isplitr; · iexact HI
    isplitr; · iexact Hl
    isplitl [Hcr1]; · iexact Hcr1
    isplitl [HO]; · iexact HO
    iexact Har1
  iintro ⟨⟨%WbkRcv1, HO⟩, HzkRcv1, Hg1⟩
  ihave Hg1 := (Entails.of_eq (show dmaPay m c (kRcv 1).val = ((xgV 1).view.loc (c : Thread nD τ) ↦[(xgV 1).view.set]{fullShare} (xgV 1).view.rep (xr m (rel c 2) c) : sProp 𝕄) from rfl)) $$ Hg1
  sl_exec
  -- the sends have left
  ihave HO : iprop(∃ W, owes (c : Thread nD τ) (Ow c 3) W) $$ [HO]
  · iexists _; iexact HO
  icases HO with ⟨%WakSnd0, HO⟩
  iapply (wp_waitd m K c (kSnd 0) (kSnd_ne 0) 3 (by decide) (q := ((cc0_scratch5.slice (Rect.unit (s := S3) ![0] S1.size inb_S3_S1_0)).squeeze S_ squeezes_S1_S_).sem) rfl (by decide) WakSnd0) $$ [HO Hcs0 Has0]
  · isplitr; · iexact HI
    isplitr; · iexact Hl
    isplitl [Hcs0]; · iexact Hcs0
    isplitl [HO]; · iexact HO
    iexact Has0
  iintro ⟨⟨%WbkSnd0, HO⟩, HzkSnd0, Hs0⟩
  sl_exec
  ihave HO : iprop(∃ W, owes (c : Thread nD τ) (Ow c 3) W) $$ [HO]
  · iexists _; iexact HO
  icases HO with ⟨%WakSnd1, HO⟩
  iapply (wp_waitd m K c (kSnd 1) (kSnd_ne 1) 3 (by decide) (q := ((cc0_scratch5.slice (Rect.unit (s := S3) ![1] S1.size inb_S3_S1_1)).squeeze S_ squeezes_S1_S_).sem) rfl (by decide) WakSnd1) $$ [HO Hcs1 Has1]
  · isplitr; · iexact HI
    isplitr; · iexact Hl
    isplitl [Hcs1]; · iexact Hcs1
    isplitl [HO]; · iexact HO
    iexact Has1
  iintro ⟨⟨%WbkSnd1, HO⟩, HzkSnd1, Hs1⟩
  sl_exec
  ihave HO : iprop(∃ W, owes (c : Thread nD τ) (Ow c 3) W) $$ [HO]
  · iexists _; iexact HO
  icases HO with ⟨%WakSnd2, HO⟩
  iapply (wp_waitd m K c (kSnd 2) (kSnd_ne 2) 3 (by decide) (q := ((cc0_scratch5.slice (Rect.unit (s := S3) ![2] S1.size inb_S3_S1_2)).squeeze S_ squeezes_S1_S_).sem) rfl (by decide) WakSnd2) $$ [HO Hcs2 Has2]
  · isplitr; · iexact HI
    isplitr; · iexact Hl
    isplitl [Hcs2]; · iexact Hcs2
    isplitl [HO]; · iexact HO
    iexact Has2
  iintro ⟨⟨%WbkSnd2, HO⟩, HzkSnd2, Hs2⟩
  sl_exec
  -- its magnitude tile, a part kept and three lent
  have e_v119 : body_run.sl.v119 m c fw0 = wld m c c 0 := (read_filled _ _ _ _ _ _ _ _).trans (congrArg (fun X => shapeCast S1x1024x2048 X (by decide)) (wblk_of m c c 0 _ _ _ (off2_eq c)))
  have e_v231 : body_run.sl.v231 m c fw0 = wld m c c 2 := (read_filled _ _ _ _ _ _ _ _).trans (congrArg (fun X => shapeCast S1x1024x2048 X (by decide)) (wblk_of m c c 2 _ _ _ (off5_eq c)))
  have e_v299 : body_run.sl.v299 m c fw0 = wld m c (rel c 3) 0 := (read_filled _ _ _ _ _ _ _ _).trans (congrArg (fun X => shapeCast S1x1024x2048 X (by decide)) (wblk_of m c (rel c 3) 0 _ _ _ (off8_eq c)))
  have e_v337 : body_run.sl.v337 m c fw0 = wld m c (rel c 3) 2 := (read_filled _ _ _ _ _ _ _ _).trans (congrArg (fun X => shapeCast S1x1024x2048 X (by decide)) (wblk_of m c (rel c 3) 2 _ _ _ (off10_eq c)))
  have e_v386 : body_run.sl.v386 m c fw0 = wld m c (rel c 1) 0 := (read_filled _ _ _ _ _ _ _ _).trans (congrArg (fun X => shapeCast S1x1024x2048 X (by decide)) (wblk_of m c (rel c 1) 0 _ _ _ (off12_eq1 c)))
  have e_v424 : body_run.sl.v424 m c fw0 = wld m c (rel c 1) 2 := (read_filled _ _ _ _ _ _ _ _).trans (congrArg (fun X => shapeCast S1x1024x2048 X (by decide)) (wblk_of m c (rel c 1) 2 _ _ _ (off14_eq1 c)))
  have e_v473 : body_run.sl.v473 m c fw0 = wld m c (rel c 2) 0 := (read_filled _ _ _ _ _ _ _ _).trans (congrArg (fun X => shapeCast S1x1024x2048 X (by decide)) (wblk_of m c (rel c 2) 0 _ _ _ (off12_eq2 c)))
  have e_v523 : body_run.sl.v523 m c fw0 = wld m c (rel c 2) 2 := (read_filled _ _ _ _ _ _ _ _).trans (congrArg (fun X => shapeCast S1x1024x2048 X (by decide)) (wblk_of m c (rel c 2) 2 _ _ _ (off14_eq2 c)))
  have e_v175 : body_run.sl.v175 m c fw1 = wld m c c 1 := (read_filled _ _ _ _ _ _ _ _).trans (congrArg (fun X => shapeCast S1x1024x2048 X (by decide)) (wblk_of m c c 1 _ _ _ (off3_eq c)))
  have e_v : body_run.sl.v m c fw1 = wld m c c 3 := (read_filled _ _ _ _ _ _ _ _).trans (congrArg (fun X => shapeCast S1x1024x2048 X (by decide)) (wblk_of m c c 3 _ _ _ (off7_eq c)))
  have e_v318 : body_run.sl.v318 m c fw1 = wld m c (rel c 3) 1 := (read_filled _ _ _ _ _ _ _ _).trans (congrArg (fun X => shapeCast S1x1024x2048 X (by decide)) (wblk_of m c (rel c 3) 1 _ _ _ (off9_eq c)))
  have e_v356 : body_run.sl.v356 m c fw1 = wld m c (rel c 3) 3 := (read_filled _ _ _ _ _ _ _ _).trans (congrArg (fun X => shapeCast S1x1024x2048 X (by decide)) (wblk_of m c (rel c 3) 3 _ _ _ (off11_eq c)))
  have e_v405 : body_run.sl.v405 m c fw1 = wld m c (rel c 1) 1 := (read_filled _ _ _ _ _ _ _ _).trans (congrArg (fun X => shapeCast S1x1024x2048 X (by decide)) (wblk_of m c (rel c 1) 1 _ _ _ (off13_eq1 c)))
  have e_v443 : body_run.sl.v443 m c fw1 = wld m c (rel c 1) 3 := (read_filled _ _ _ _ _ _ _ _).trans (congrArg (fun X => shapeCast S1x1024x2048 X (by decide)) (wblk_of m c (rel c 1) 3 _ _ _ (off15_eq1 c)))
  have e_v498 : body_run.sl.v498 m c fw1 = wld m c (rel c 2) 1 := (read_filled _ _ _ _ _ _ _ _).trans (congrArg (fun X => shapeCast S1x1024x2048 X (by decide)) (wblk_of m c (rel c 2) 1 _ _ _ (off13_eq2 c)))
  have e_v543 : body_run.sl.v543 m c fw1 = wld m c (rel c 2) 3 := (read_filled _ _ _ _ _ _ _ _).trans (congrArg (fun X => shapeCast S1x1024x2048 X (by decide)) (wblk_of m c (rel c 2) 3 _ _ _ (off15_eq2 c)))
  have e_r1 : body_run.sl.r_1 m c = lf m c c := by
    delta body_run.sl.r_1 body_run.sl.r; rw [e_v93]; rfl
  have e_r3 : body_run.sl.r_3 m c = lf m (rel c 3) c := congrArg k0_pay12 (View.read_rep (Val := Elt F) (xgV 0).view (xr m (rel c 3) c))
  have e_r6 : body_run.sl.r_6 m c = lf m (rel c 1) c := congrArg k0_pay12 (View.read_rep (Val := Elt F) (xgV 2).view (xr m (rel c 1) c))
  have e_r7 : body_run.sl.r_7 m c = lf m (rel c 2) c := congrArg k0_pay12 (View.read_rep (Val := Elt F) (xgV 1).view (xr m (rel c 2) c))
  have e_v302 : body_run.sl.v302 m c fw0 fw1 = acc0 m c 0 := by
    delta body_run.sl.v302 body_run.sl.r
    rw [cov_skip _ _ _ _ _ (by decide), cov_skip _ _ _ _ _ (by decide), cov_skip _ _ _ _ _ (by decide), View.readCov_cons_toLoadRect]
    rw [e_v93, e_v119]; rfl
  have e_v321 : body_run.sl.v321 m c fw0 fw1 = acc0 m c 1 := by
    delta body_run.sl.v321 body_run.sl.Hout_5
    rw [cov_skip _ _ _ _ _ (by decide), cov_skip _ _ _ _ _ (by decide), cov_skip _ _ _ _ _ (by decide), View.readCov_cons_toLoadRect]
    rw [e_r1, e_v175]; rfl
  have e_v340 : body_run.sl.v340 m c fw0 fw1 = acc0 m c 2 := by
    delta body_run.sl.v340 body_run.sl.Hout_6 body_run.sl.Hout_5
    rw [cov_skip _ _ _ _ _ (by decide), cov_skip _ _ _ _ _ (by decide), cov_skip _ _ _ _ _ (by decide), View.readCov_cons_toLoadRect]
    rw [e_r1, e_v231]; rfl
  have e_v359 : body_run.sl.v359 m c fw0 fw1 = acc0 m c 3 := by
    delta body_run.sl.v359 body_run.sl.Hout_7 body_run.sl.Hout_6 body_run.sl.Hout_5
    rw [cov_skip _ _ _ _ _ (by decide), cov_skip _ _ _ _ _ (by decide), cov_skip _ _ _ _ _ (by decide), View.readCov_cons_toLoadRect]
    rw [e_r1, e_v]; rfl
  have e_v389 : body_run.sl.v389 m c fw0 fw1 = acc1 m c 0 := by
    delta body_run.sl.v389 body_run.sl.Hout_7 body_run.sl.Hout_6 body_run.sl.Hout_5 body_run.sl.r_4
    rw [cov_skip _ _ _ _ _ (by decide), cov_skip _ _ _ _ _ (by decide), cov_skip _ _ _ _ _ (by decide), View.readCov_cons_toLoadRect]
    rw [e_r3, e_v299, e_v302]; rfl
  have e_v408 : body_run.sl.v408 m c fw0 fw1 = acc1 m c 1 := by
    delta body_run.sl.v408 body_run.sl.Hout_9 body_run.sl.Hout_7 body_run.sl.Hout_6
    rw [cov_skip _ _ _ _ _ (by decide), cov_skip _ _ _ _ _ (by decide), cov_skip _ _ _ _ _ (by decide), View.readCov_cons_toLoadRect]
    rw [e_r3, e_v318, e_v321]; rfl
  have e_v427 : body_run.sl.v427 m c fw0 fw1 = acc1 m c 2 := by
    delta body_run.sl.v427 body_run.sl.Hout_10 body_run.sl.Hout_9 body_run.sl.Hout_7
    rw [cov_skip _ _ _ _ _ (by decide), cov_skip _ _ _ _ _ (by decide), cov_skip _ _ _ _ _ (by decide), View.readCov_cons_toLoadRect]
    rw [e_r3, e_v337, e_v340]; rfl
  have e_v446 : body_run.sl.v446 m c fw0 fw1 = acc1 m c 3 := by
    delta body_run.sl.v446 body_run.sl.Hout_11 body_run.sl.Hout_10 body_run.sl.Hout_9 body_run.sl.r_5
    rw [cov_skip _ _ _ _ _ (by decide), cov_skip _ _ _ _ _ (by decide), cov_skip _ _ _ _ _ (by decide), View.readCov_cons_toLoadRect]
    rw [e_r3, e_v356, e_v359]; rfl
  have e_v476 : body_run.sl.v476 m c fw0 fw1 = acc2 m c 0 := by
    delta body_run.sl.v476 body_run.sl.Hout_11 body_run.sl.Hout_10 body_run.sl.Hout_9
    rw [cov_skip _ _ _ _ _ (by decide), cov_skip _ _ _ _ _ (by decide), cov_skip _ _ _ _ _ (by decide), View.readCov_cons_toLoadRect]
    rw [e_r6, e_v386, e_v389]; rfl
  have e_v501 : body_run.sl.v501 m c fw0 fw1 = acc2 m c 1 := by
    delta body_run.sl.v501 body_run.sl.Hout_13 body_run.sl.Hout_11 body_run.sl.Hout_10
    rw [cov_skip _ _ _ _ _ (by decide), cov_skip _ _ _ _ _ (by decide), cov_skip _ _ _ _ _ (by decide), View.readCov_cons_toLoadRect]
    rw [e_r6, e_v405, e_v408]; rfl
  have e_v526 : body_run.sl.v526 m c fw0 fw1 = acc2 m c 2 := by
    delta body_run.sl.v526 body_run.sl.Hout_14 body_run.sl.Hout_13 body_run.sl.Hout_11
    rw [cov_skip _ _ _ _ _ (by decide), cov_skip _ _ _ _ _ (by decide), cov_skip _ _ _ _ _ (by decide), View.readCov_cons_toLoadRect]
    rw [e_r6, e_v424, e_v427]; rfl
  have e_v546 : body_run.sl.v546 m c fw0 fw1 = acc2 m c 3 := by
    delta body_run.sl.v546 body_run.sl.Hout_15 body_run.sl.Hout_14 body_run.sl.Hout_13
    rw [cov_skip _ _ _ _ _ (by decide), cov_skip _ _ _ _ _ (by decide), cov_skip _ _ _ _ _ (by decide), View.readCov_cons_toLoadRect]
    rw [e_r6, e_v443, e_v446]; rfl
  have hA : (amV 3).view.read (Elt F) (body_run.sl.Ha3_w1 m c fw0 fw1 fa3) = tile m c := by
    refine (View.read_write_univ (Val := Elt F) (v := (amV 3).view) fa3 _).trans ?_
    have e : body_run.sl.r_12 m c fw0 fw1 = am m c := by
      delta body_run.sl.r_12 body_run.sl.r_10 body_run.sl.r_11 body_run.sl.r_8 body_run.sl.r_9
      rw [e_r7, e_v473, e_v476, e_v498, e_v501, e_v523, e_v526, e_v543, e_v546]; rfl
    exact congrArg k0_pay38 e
  ihave Ha3 := ((Entails.of_eq (rep_pts c (amV 3) fullShare _ _ hA).symm).trans (show _ ⊢ _ from (tile_split c 3 (tile m c)).1)) $$ Ha3
  icases Ha3 with ⟨Hk3, Hl0, Hl1, Hl2⟩
  ihave HO : iprop(∃ W, owes (c : Thread nD τ) (Ow c 3) W) $$ [HO]
  · iexists _; iexact HO
  icases HO with ⟨%Wasa0, HO⟩
  iapply (wp_senda m K c ⟨k0_dev7 c, k0_dev7_lt c⟩ 0 2 rfl (dev7_eq c) rfl rfl rfl rfl Wasa0) $$ [HO Htu0 Htv0 Hl0 Ha0]
  · isplitr; · iexact HI
    isplitr; · iexact HR
    isplitl [HO]; · iexact HO
    isplitl [Htu0]; · iexact Htu0
    isplitl [Htv0]; · iexact Htv0
    isplitl [Hl0]; · iexact Hl0
    iexact Ha0
  iintro ⟨Hcu0, HO⟩
  sl_exec
  ihave HO : iprop(∃ W, owes (c : Thread nD τ) (Ow c 2) W) $$ [HO]
  · iexists _; iexact HO
  icases HO with ⟨%Wasa1, HO⟩
  iapply (wp_senda m K c ⟨k0_dev8 c, k0_dev8_lt c⟩ 1 1 rfl (dev8_eq c) rfl rfl rfl rfl Wasa1) $$ [HO Htu1 Htv1 Hl1 Ha1]
  · isplitr; · iexact HI
    isplitr; · iexact HR
    isplitl [HO]; · iexact HO
    isplitl [Htu1]; · iexact Htu1
    isplitl [Htv1]; · iexact Htv1
    isplitl [Hl1]; · iexact Hl1
    iexact Ha1
  iintro ⟨Hcu1, HO⟩
  sl_exec
  ihave HO : iprop(∃ W, owes (c : Thread nD τ) (Ow c 1) W) $$ [HO]
  · iexists _; iexact HO
  icases HO with ⟨%Wasa2, HO⟩
  iapply (wp_senda m K c ⟨k0_dev9 c, k0_dev9_lt c⟩ 2 0 rfl (dev9_eq c) rfl rfl rfl rfl Wasa2) $$ [HO Htu2 Htv2 Hl2 Ha2]
  · isplitr; · iexact HI
    isplitr; · iexact HR
    isplitl [HO]; · iexact HO
    isplitl [Htu2]; · iexact Htu2
    isplitl [Htv2]; · iexact Htv2
    isplitl [Hl2]; · iexact Hl2
    iexact Ha2
  iintro ⟨Hcu2, HO⟩
  sl_exec
  ihave HO : iprop(∃ W, owes (c : Thread nD τ) (Ow c 0) W) $$ [HO]
  · iexists _; iexact HO
  icases HO with ⟨%WakARcv0, HO⟩
  iapply (wp_waitd m K c (kARcv 0) (kARcv_ne 0) 0 (by decide) (q := ((cc0_scratch8.slice (Rect.unit (s := S3) ![0] S1.size inb_S3_S1_0)).squeeze S_ squeezes_S1_S_).sem) rfl (by decide) WakARcv0) $$ [HO Hcv0 Hav0]
  · isplitr; · iexact HI
    isplitr; · iexact Hl
    isplitl [Hcv0]; · iexact Hcv0
    isplitl [HO]; · iexact HO
    iexact Hav0
  iintro ⟨⟨%WbkARcv0, HO⟩, HzkARcv0, Ha0⟩
  ihave Ha0 := ((Entails.of_eq (show dmaPay m c (kARcv 0).val = amAt c 0 fullShare (tile m (rel c 3)) from rfl)).trans (tile_split c 0 _).1) $$ Ha0
  icases Ha0 with ⟨Hk0, Hb0⟩
  sl_exec
  ihave HO : iprop(∃ W, owes (c : Thread nD τ) (Ow c 0) W) $$ [HO]
  · iexists _; iexact HO
  icases HO with ⟨%WakARcv1, HO⟩
  iapply (wp_waitd m K c (kARcv 1) (kARcv_ne 1) 0 (by decide) (q := ((cc0_scratch8.slice (Rect.unit (s := S3) ![1] S1.size inb_S3_S1_1)).squeeze S_ squeezes_S1_S_).sem) rfl (by decide) WakARcv1) $$ [HO Hcv1 Hav1]
  · isplitr; · iexact HI
    isplitr; · iexact Hl
    isplitl [Hcv1]; · iexact Hcv1
    isplitl [HO]; · iexact HO
    iexact Hav1
  iintro ⟨⟨%WbkARcv1, HO⟩, HzkARcv1, Ha1⟩
  ihave Ha1 := ((Entails.of_eq (show dmaPay m c (kARcv 1).val = amAt c 1 fullShare (tile m (rel c 2)) from rfl)).trans (tile_split c 1 _).1) $$ Ha1
  icases Ha1 with ⟨Hk1, Hb1⟩
  sl_exec
  ihave HO : iprop(∃ W, owes (c : Thread nD τ) (Ow c 0) W) $$ [HO]
  · iexists _; iexact HO
  icases HO with ⟨%WakARcv2, HO⟩
  iapply (wp_waitd m K c (kARcv 2) (kARcv_ne 2) 0 (by decide) (q := ((cc0_scratch8.slice (Rect.unit (s := S3) ![2] S1.size inb_S3_S1_2)).squeeze S_ squeezes_S1_S_).sem) rfl (by decide) WakARcv2) $$ [HO Hcv2 Hav2]
  · isplitr; · iexact HI
    isplitr; · iexact Hl
    isplitl [Hcv2]; · iexact Hcv2
    isplitl [HO]; · iexact HO
    iexact Hav2
  iintro ⟨⟨%WbkARcv2, HO⟩, HzkARcv2, Ha2⟩
  ihave Ha2 := ((Entails.of_eq (show dmaPay m c (kARcv 2).val = amAt c 2 fullShare (tile m (rel c 1)) from rfl)).trans (tile_split c 2 _).1) $$ Ha2
  icases Ha2 with ⟨Hk2, Hb2⟩
  -- the four tiles read as one buffer
  ihave Ham := (Entails.of_eq (tiles_whole m c aqKept)) $$ [Hk0 Hk1 Hk2 Hk3]
  · isplitl [Hk0]; · iexact Hk0
    isplitl [Hk1]; · iexact Hk1
    isplitl [Hk2]; · iexact Hk2
    iexact Hk3
  sl_exec
  ihave HO : iprop(∃ W, owes (c : Thread nD τ) (Ow c 0) W) $$ [HO]
  · iexists _; iexact HO
  icases HO with ⟨%WakASnd0, HO⟩
  iapply (wp_waitd m K c (kASnd 0) (kASnd_ne 0) 0 (by decide) (q := ((cc0_scratch7.slice (Rect.unit (s := S3) ![0] S1.size inb_S3_S1_0)).squeeze S_ squeezes_S1_S_).sem) rfl (by decide) WakASnd0) $$ [HO Hcu0 Hau0]
  · isplitr; · iexact HI
    isplitr; · iexact Hl
    isplitl [Hcu0]; · iexact Hcu0
    isplitl [HO]; · iexact HO
    iexact Hau0
  iintro ⟨⟨%WbkASnd0, HO⟩, HzkASnd0, Hl0⟩
  sl_exec
  ihave HO : iprop(∃ W, owes (c : Thread nD τ) (Ow c 0) W) $$ [HO]
  · iexists _; iexact HO
  icases HO with ⟨%WakASnd1, HO⟩
  iapply (wp_waitd m K c (kASnd 1) (kASnd_ne 1) 0 (by decide) (q := ((cc0_scratch7.slice (Rect.unit (s := S3) ![1] S1.size inb_S3_S1_1)).squeeze S_ squeezes_S1_S_).sem) rfl (by decide) WakASnd1) $$ [HO Hcu1 Hau1]
  · isplitr; · iexact HI
    isplitr; · iexact Hl
    isplitl [Hcu1]; · iexact Hcu1
    isplitl [HO]; · iexact HO
    iexact Hau1
  iintro ⟨⟨%WbkASnd1, HO⟩, HzkASnd1, Hl1⟩
  sl_exec
  ihave HO : iprop(∃ W, owes (c : Thread nD τ) (Ow c 0) W) $$ [HO]
  · iexists _; iexact HO
  icases HO with ⟨%WakASnd2, HO⟩
  iapply (wp_waitd m K c (kASnd 2) (kASnd_ne 2) 0 (by decide) (q := ((cc0_scratch7.slice (Rect.unit (s := S3) ![2] S1.size inb_S3_S1_2)).squeeze S_ squeezes_S1_S_).sem) rfl (by decide) WakASnd2) $$ [HO Hcu2 Hau2]
  · isplitr; · iexact HI
    isplitr; · iexact Hl
    isplitl [Hcu2]; · iexact Hcu2
    isplitl [HO]; · iexact HO
    iexact Hau2
  iintro ⟨⟨%WbkASnd2, HO⟩, HzkASnd2, Hl2⟩
  sl_exec
  have e_v674 : body_run.sl.v674 m c fw0 fw1 = acc3 m c 0 := by
    delta body_run.sl.v674 body_run.sl.Hout_15 body_run.sl.Hout_14 body_run.sl.Hout_13
    rw [cov_skip _ _ _ _ _ (by decide), cov_skip _ _ _ _ _ (by decide), cov_skip _ _ _ _ _ (by decide), View.readCov_cons_toLoadRect]
    rw [e_r7, e_v473, e_v476]; rfl
  have e_v689 : body_run.sl.v689 m c fw0 fw1 = acc3 m c 1 := by
    delta body_run.sl.v689 body_run.sl.Hout_17 body_run.sl.Hout_15 body_run.sl.Hout_14 body_run.sl.r_9
    rw [cov_skip _ _ _ _ _ (by decide), cov_skip _ _ _ _ _ (by decide), cov_skip _ _ _ _ _ (by decide), View.readCov_cons_toLoadRect]
    rw [e_r7, e_v498, e_v501]; rfl
  have e_v704 : body_run.sl.v704 m c fw0 fw1 = acc3 m c 2 := by
    delta body_run.sl.v704 body_run.sl.Hout_18 body_run.sl.Hout_17 body_run.sl.Hout_15
    rw [cov_skip _ _ _ _ _ (by decide), cov_skip _ _ _ _ _ (by decide), cov_skip _ _ _ _ _ (by decide), View.readCov_cons_toLoadRect]
    rw [e_r7, e_v523, e_v526]; rfl
  have e_v719 : body_run.sl.v719 m c fw0 fw1 = acc3 m c 3 := by
    delta body_run.sl.v719 body_run.sl.Hout_19 body_run.sl.Hout_18 body_run.sl.Hout_17
    rw [cov_skip _ _ _ _ _ (by decide), cov_skip _ _ _ _ _ (by decide), cov_skip _ _ _ _ _ (by decide), View.readCov_cons_toLoadRect]
    rw [e_r7, e_v543, e_v546]; rfl
  have e_am : View.readAt (Elt F) (Memref.whole cc0_scratch4).view (Rect.unit (s := S4x8x128) ![0, 0, 0] S4x8x128.size inb_S4x8x128_S4x8x128_0_0_0).toLoadRect (amAll m c) = amAll m c :=
    View.readAt_full (s := S4x8x128) (Memref.whole cc0_scratch4).view (amAll m c) inb_S4x8x128_S4x8x128_0_0_0
  have hout : (Memref.whole cc0_stg0_0).view.read (Elt F) ((Memref.whole cc0_stg0_0).view.writes (Elt F) fo
      (⟨Rect.unit ![0, 6144] S1024x2048.size inb_S1024x8192_S1024x2048_0_6144,
          k0_pay48 (body_run.sl.r_13 m c) (body_run.sl.r_17 m c fw0 fw1) body_run.sl.cst_612 k0_pay47⟩ :: body_run.sl.Hout_19 m c fw0 fw1)) = beside (outq m c) := by
    delta body_run.sl.Hout_19 body_run.sl.Hout_18 body_run.sl.Hout_17 body_run.sl.r_17 body_run.sl.r_13 body_run.sl.r_14 body_run.sl.r_15 body_run.sl.r_16 body_run.sl.cst_612
    rw [e_am, e_v674, e_v689, e_v704, e_v719]
    exact four_stores (Memref.whole cc0_stg0_0).view fo (outq m c) _
  ihave Hout := (Entails.of_eq (rep_pts c (Memref.whole cc0_stg0_0) fullShare _ _ hout).symm) $$ Hout
  ihave Hout := (Entails.of_eq (rep_pts c (Memref.whole cc0_stg0_0) fullShare (beside (outq m c)) (beside (outq m c)) rfl)) $$ Hout
  ihave Ham := (Entails.of_eq (tiles_whole m c aqKept).symm) $$ Ham
  icases Ham with ⟨Hk0, Hk1, Hk2, Hk3⟩
  ihave Hm0 := ((show _ ⊢ _ from (tile_split c 0 (tile m (rel c 3))).2).trans (amAt_any (F := F) c 0 _)) $$ [Hk0 Hb0]
  · isplitl [Hk0]; · iexact Hk0
    iexact Hb0
  ihave Hm1 := ((show _ ⊢ _ from (tile_split c 1 (tile m (rel c 2))).2).trans (amAt_any (F := F) c 1 _)) $$ [Hk1 Hb1]
  · isplitl [Hk1]; · iexact Hk1
    iexact Hb1
  ihave Hm2 := ((show _ ⊢ _ from (tile_split c 2 (tile m (rel c 1))).2).trans (amAt_any (F := F) c 2 _)) $$ [Hk2 Hb2]
  · isplitl [Hk2]; · iexact Hk2
    iexact Hb2
  ihave Hm3 := ((show _ ⊢ _ from (tile_split c 3 (tile m c)).2).trans (amAt_any (F := F) c 3 _)) $$ [Hk3 Hl0 Hl1 Hl2]
  · isplitl [Hk3]; · iexact Hk3
    isplitl [Hl0]; · iapply (Entails.of_eq (show dmaPay m c (kASnd 0).val = amAt c 3 (aq 0) (tile m c) from rfl)); iexact Hl0
    isplitl [Hl1]; · iapply (Entails.of_eq (show dmaPay m c (kASnd 1).val = amAt c 3 (aq 1) (tile m c) from rfl)); iexact Hl1
    iapply (Entails.of_eq (show dmaPay m c (kASnd 2).val = amAt c 3 (aq 2) (tile m c) from rfl)); iexact Hl2
  rw [wp_ret]
  imodintro
  unfold bodyOut bufAt bufAtQ localSems
  rw [sems_eq]
  isplitl [HO]; · iexists _; iexact HO
  isplitl [Hx]; · iexact Hx
  isplitl [Hw13]; · iexact Hw13
  isplitl [Hw14]; · iexact Hw14
  isplitl [Hout]; · iexact Hout
  isplitl [Hxst]; · iexists _; iexact Hxst
  isplitl [Hs0 Hs1 Hs2 Hs3]
  · iapply (xs_close c fs3)
    isplitl [Hs0]; · iapply (Entails.of_eq (show dmaPay m c (kSnd 0).val = xsAny (F := F) c 0 from rfl)); iexact Hs0
    isplitl [Hs1]; · iapply (Entails.of_eq (show dmaPay m c (kSnd 1).val = xsAny (F := F) c 1 from rfl)); iexact Hs1
    isplitl [Hs2]; · iapply (Entails.of_eq (show dmaPay m c (kSnd 2).val = xsAny (F := F) c 2 from rfl)); iexact Hs2
    unfold xsAny; iexists _; iexact Hs3
  isplitl [Hg0 Hg1 Hg2]
  · iapply (xg_close c ((xgV 0).view.rep (xr m (rel c 3) c)))
    unfold xgAny
    isplitl [Hg0]; · iexists _; iexact Hg0
    isplitl [Hg1]; · iexists _; iexact Hg1
    iexists _; iexact Hg2
  isplitl [Hwb0 Hwb1]
  · iapply (wb_close c fw0)
    unfold wbAny
    isplitl [Hwb0]; · iexists _; iexact Hwb0
    iexists _; iexact Hwb1
  isplitl [Hm0 Hm1 Hm2 Hm3]
  · iapply (am_close c (amAll m c))
    isplitl [Hm0]; · iexact Hm0
    isplitl [Hm1]; · iexact Hm1
    isplitl [Hm2]; · iexact Hm2
    iexact Hm3
  isplitr [Hz0 Hz1 Hz2]
  · isplitl [Hzb]; · iexact Hzb
    isplitl [HzkSnd0]; · iexact HzkSnd0
    isplitl [HzkSnd1]; · iexact HzkSnd1
    isplitl [HzkSnd2]; · iexact HzkSnd2
    isplitl [HzkRcv0]; · iexact HzkRcv0
    isplitl [HzkRcv1]; · iexact HzkRcv1
    isplitl [HzkRcv2]; · iexact HzkRcv2
    isplitl [HzkASnd0]; · iexact HzkASnd0
    isplitl [HzkASnd1]; · iexact HzkASnd1
    isplitl [HzkASnd2]; · iexact HzkASnd2
    isplitl [HzkARcv0]; · iexact HzkARcv0
    isplitl [HzkARcv1]; · iexact HzkARcv1
    iexact HzkARcv2
  isplitl [Hz0]; · iexact Hz0
  isplitl [Hz1]; · iexact Hz1
  iexact Hz2

end Cert.KernelIdeal.Run

end
-- ==== Proof.Deal.lean ====
/-
  The ghost state of the protocol, from what one launch mints to what each device's body starts from: the cells' invariants, the
  duty tokens passed around to the devices that pay them, the credit on the arrivals.
-/
module

public import proofs.«01_k».proof.Proof.Body

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-! ## The cells and the tokens minted -/

theorem csem_injective : Function.Injective csem := by decide
theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- The five duties of slot `s` on a device's own cells: which cell, which duty. -/
def tokK : Fin 3 × Fin 5 → Fin 13 × Fin 3
  | (s, 0) => (0, s) | (s, 1) => (kSnd s, 0) | (s, 2) => (kRcv s, 0) | (s, 3) => (kASnd s, 0) | (s, 4) => (kARcv s, 0)
theorem tokK_injective : Function.Injective tokK := by decide
def tokOf (cj : Dev nD × (Fin 3 × Fin 5)) : GSem nD τ sig × ℕ × Fin 3 := (kcell (cj.1, (tokK cj.2).1), 0, (tokK cj.2).2)
theorem tokOf_injective : Function.Injective tokOf := by
  rintro ⟨c, j⟩ ⟨c', j'⟩ h
  have h1 := kcell_injective (congrArg Prod.fst h)
  have h2 : (tokK j).2 = (tokK j').2 := congrArg (fun x => x.2.2) h
  have h3 : j = j' := tokK_injective (Prod.ext (congrArg Prod.snd h1) h2)
  rw [h3, show c = c' from congrArg Prod.fst h1]
def theToks : Finset (GSem nD τ sig × ℕ × Fin 3) := Finset.univ.map ⟨tokOf, tokOf_injective⟩

def u₀ : UU :=
  (initOf (Pipeline.cells cfgs cellOf_inj) (Pipeline.launchToks cfgs cellOf_inj), (initOf theCells theToks, 1))

theorem u₀_split : (ownU (u₀ : UU) : sProp 𝕄)
    ⊢ iprop(BI.own (EP (F := F) (initOf (Pipeline.cells cfgs cellOf_inj) (Pipeline.launchToks cfgs cellOf_inj))) ∗ BI.own (ER (F := F) (initOf theCells theToks))) :=
  ownU_pair _ _

/-! ## What each device is dealt -/

/-- The duty tokens of device `c`'s own cells in slot `s`, -/
def ownToks (c : Dev nD) (s : Fin 3) : sProp 𝕄 :=
  iprop(dutyTok ER (barCell c) 0 s ∗ dutyTok ER (kcell (c, kSnd s)) 0 0 ∗ dutyTok ER (kcell (c, kRcv s)) 0 0
    ∗ dutyTok ER (kcell (c, kASnd s)) 0 0 ∗ dutyTok ER (kcell (c, kARcv s)) 0 0)
/-- and of the duties it pays. -/
def payToks (c : Dev nD) (s : Fin 3) : sProp 𝕄 :=
  iprop(dutyTok ER (barCell (rel c (3 - s.val))) 0 s
    ∗ dutyTok ER (kcell (c, kSnd s)) 0 0 ∗ dutyTok ER (kcell (rel c (s.val + 1), kRcv s)) 0 0
    ∗ dutyTok ER (kcell (c, kASnd s)) 0 0 ∗ dutyTok ER (kcell (rel c (s.val + 1), kARcv s)) 0 0)

/-- What the launch deals device `c`. -/
def G (c : Dev nD) : sProp 𝕄 :=
  iprop((bigSep Finset.univ fun k : Fin 13 => roundState ER (Rd m) (kcell (c, k)) 0)
    ∗ (bigSep Finset.univ fun k : Fin 13 => iprop(atPos ER (kcell (c, k)) 0 ∅ 0 ∗ reached ER (kcell (c, k)) 0))
    ∗ bigSep Finset.univ fun s : Fin 3 => ownToks (F := F) c s)

theorem five_eq (P : Fin 5 → sProp 𝕄) : bigSep Finset.univ P = iprop(P 0 ∗ P 1 ∗ P 2 ∗ P 3 ∗ P 4) := by
  rw [bigSep_univ_eq_bigSepL [0, 1, 2, 3, 4] (by decide) (by decide)]; rfl

theorem fund_cells : BI.own (ER (F := F) (initOf theCells theToks)) ⊢ (|==> bigSep Finset.univ (G m) : sProp 𝕄) := by
  have hX (Φ : GSem nD τ sig → sProp 𝕄) : bigSep theCells Φ = bigSep Finset.univ fun c : Dev nD => bigSep Finset.univ fun k : Fin 13 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => bigSep Finset.univ fun s : Fin 3 => ownToks (F := F) c s := by
    unfold theToks; rw [bigSep_map, bigSep_univ_prod]
    refine bigSep_congr fun c _ => ?_
    rw [bigSep_univ_prod]
    exact bigSep_congr fun s _ => by unfold ownToks; rw [five_eq]; rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own DMA semaphores: all but the staging one. -/
abbrev osem : Fin 15 → SemLoc sig := fun k => .dma (dq ⟨k.val + 1, by omega⟩)
theorem ownSemFacts : Pipeline.OwnSemFacts cfg0.spec osem := by decide

theorem own_sems (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
      ∗ semVal (kcell (c, 5)) 0 ∗ semVal (kcell (c, 6)) 0 ∗ semVal (kcell (c, 7)) 0 ∗ semVal (kcell (c, 8)) 0
      ∗ semVal (kcell (c, 9)) 0 ∗ semVal (kcell (c, 10)) 0 ∗ semVal (kcell (c, 11)) 0 ∗ semVal (kcell (c, 12)) 0 ∗ localSems (F := F) c) := by
  rw [Pipeline.ownSems0_eq_of_list c osem [0, 1, 2, 3, 4, 5, 6, 7, 8, 9, 10, 11, 12, 13, 14] (by decide) (by decide)]; rfl
theorem free_sems (c : Dev nD) : (unscopedSems0 c : sProp 𝕄) = semVal (barCell c) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 13 => semVal (kcell (c, k)) 0) ∗ localSems (F := F) c) : sProp 𝕄) := by
  rw [own_sems, free_sems, sems_eq]
  iintro ⟨⟨H1, H2, H3, H4, H5, H6, H7, H8, H9, H10, H11, H12, Hl⟩, H0⟩
  isplitr [Hl]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hl

theorem sems_join (c : Dev nD) :
    (iprop((bigSep Finset.univ fun k : Fin 13 => semVal (kcell (c, k)) 0) ∗ localSems (F := F) c) : sProp 𝕄)
      ⊢ iprop(unscopedSems0 c ∗ Pipeline.ownSems0 (Ix := Unit) (Name := ℕ) (U := UU) (Lvl := ℕ) (Val := Elt F) (τ := τ) osem c) := by
  rw [own_sems, free_sems, sems_eq]
  iintro ⟨⟨H0, H1, H2, H3, H4, H5, H6, H7, H8, H9, H10, H11, H12⟩, Hl⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hl

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0))
          ∗ (bigSep Finset.univ fun s : Fin 3 => ownToks (F := F) c s) ∗ localSems (F := F) c) := by
  unfold G
  iintro ⟨Hos, Hus, Hst, Hat, Htok⟩
  ihave Hv := (sems_split (F := F) c) $$ [Hos Hus]
  · isplitl [Hos] <;> iassumption
  icases Hv with ⟨Hv, Hl⟩
  imod (show iprop((bigSep Finset.univ fun k : Fin 13 => semVal (kcell (c, k)) 0) ∗ bigSep Finset.univ fun k : Fin 13 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- What stays with device `c`: its positions, the tokens of the duties it pays, its own copies' semaphores. -/
def linear (c : Dev nD) : sProp 𝕄 :=
  iprop((bigSep Finset.univ fun k : Fin 13 => atPos ER (kcell (c, k)) 0 ∅ 0) ∗ (bigSep Finset.univ fun s : Fin 3 => payToks (F := F) c s) ∗ localSems (F := F) c)

/-- What the global step makes of it. -/
def G' (c : Dev nD) : sProp 𝕄 := iprop(∃ K, (invAll m K ∗ rchAll (F := F)) ∗ linear (F := F) c)

/-- Going `k` places on, and coming back. -/
def turn (k : ℕ) : Dev nD ≃ Dev nD where
  toFun c := rel c k
  invFun c := rel c (4 - k % 4)
  left_inv c := by
    have := c.isLt; simp only [nD] at this
    apply Fin.ext; show ((c.val + k) % 4 + (4 - k % 4)) % 4 = c.val; omega
  right_inv c := by
    have := c.isLt; simp only [nD] at this
    apply Fin.ext; show ((c.val + (4 - k % 4)) % 4 + k) % 4 = c.val; omega

/-- The tokens passed around, slot by slot. -/
theorem toks_slot (s : Fin 3) : (bigSep Finset.univ fun c : Dev nD => ownToks (F := F) c s) ⊢ bigSep Finset.univ fun c : Dev nD => payToks (F := F) c s := by
  unfold ownToks payToks
  rw [bigSep_sep', bigSep_sep', bigSep_sep', bigSep_sep', bigSep_sep', bigSep_sep', bigSep_sep', bigSep_sep',
    bigSep_univ_equiv (turn (3 - s.val)) (fun c : Dev nD => (dutyTok ER (barCell c) 0 s : sProp 𝕄)),
    bigSep_univ_equiv (turn (s.val + 1)) (fun c : Dev nD => (dutyTok ER (kcell (c, kRcv s)) 0 0 : sProp 𝕄)),
    bigSep_univ_equiv (turn (s.val + 1)) (fun c : Dev nD => (dutyTok ER (kcell (c, kARcv s)) 0 0 : sProp 𝕄))]
  exact Entails.refl _
theorem toks_around : (bigSep Finset.univ fun c : Dev nD => bigSep Finset.univ fun s : Fin 3 => ownToks (F := F) c s)
    ⊢ bigSep Finset.univ fun c : Dev nD => bigSep Finset.univ fun s : Fin 3 => payToks (F := F) c s := by
  rw [bigSep_univ_comm, bigSep_univ_comm (fun (c : Dev nD) (s : Fin 3) => payToks (F := F) c s)]
  exact bigSep_mono fun s _ => toks_slot s

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0))
          ∗ (bigSep Finset.univ fun s : Fin 3 => ownToks (F := F) c s) ∗ localSems (F := F) c) : sProp 𝕄)
      ⊢ bigSep Finset.univ (G' m) := by
  rw [bigSep_sep', bigSep_sep', bigSep_sep', ← bigSep_univ_prod (fun ck : Dev nD × Fin 13 => iprop(∃ κ : ℕ, cellInv ER (Rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hl⟩
  ihave HK := (BI.bigSep_exists_pi Finset.univ (fun (ck : Dev nD × Fin 13) (κ : ℕ) => (cellInv ER (Rd m) κ (kcell ck) : sProp 𝕄))) $$ HI
  icases HK with ⟨%K, #HI⟩
  ihave Htk := (toks_around (F := F)) $$ Htok
  iapply (with_persistent (S := Finset.univ) (R := iprop(invAll m K ∗ rchAll (F := F))) (Φ := linear (F := F)) (Ψ := G' m) fun c _ => by
    unfold G'; iintro H; iexists K; iexact H)
  isplitr
  · unfold invAll rchAll; isplitl; · iexact HI
    iexact HR
  · iapply ((Entails.of_eq (by unfold linear; rw [bigSep_sep', bigSep_sep'])) :
      iprop((bigSep Finset.univ fun c : Dev nD => bigSep Finset.univ fun k : Fin 13 => (atPos ER (kcell (c, k)) 0 ∅ 0 : sProp 𝕄))
        ∗ (bigSep Finset.univ fun c : Dev nD => bigSep Finset.univ fun s : Fin 3 => payToks (F := F) c s) ∗ bigSep Finset.univ fun c : Dev nD => localSems (F := F) c)
      ⊢ bigSep Finset.univ fun c : Dev nD => linear (F := F) c)
    isplitl [Hat]; · iexact Hat
    isplitl [Htk]; · iexact Htk
    iexact Hl

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem owed_at (d c : Dev nD) (k : Fin 13) : ∀ n, Ow d n (kcell (c, k)) ()
    = ∑ i ∈ Finset.range n, if rel d (3 - i % 3) = c then (if owK i = k then kAmt k else 0) else 0
  | 0 => by rw [Finset.range_zero, Finset.sum_empty]; rfl
  | n + 1 => by
    rw [Finset.sum_range_succ, ← owed_at d c k n]
    show Ow d n (kcell (c, k)) () + tallyAt (owCell d n) () (kAmt (owK n)) (kcell (c, k)) () = _
    congr 1
    rw [tallyAt_apply]
    unfold owCell
    by_cases h1 : rel d (3 - n % 3) = c
    · by_cases h2 : owK n = k
      · rw [if_pos ⟨by rw [h1, h2], rfl⟩, if_pos h1, if_pos h2, h2]
      · rw [if_neg (fun h => h2 (congrArg Prod.snd (kcell_injective h.1)).symm), if_pos h1, if_neg h2]
    · rw [if_neg (fun h => h1 (congrArg Prod.fst (kcell_injective h.1)).symm), if_neg h1]

/-- How many units of credit a cell's arrivals come to. -/
theorem owed_total (c : Dev nD) (k : Fin 13) : ∑ d : Dev nD, O₀ d (kcell (c, k)) () = ∑ i ∈ Finset.range 9, if owK i = k then kAmt k else 0 := by
  refine (Finset.sum_congr rfl fun d _ => owed_at d c k 9).trans ?_
  rw [Finset.sum_comm]
  refine Finset.sum_congr rfl fun i _ => ?_
  have e : ∀ d : Dev nD, (if rel d (3 - i % 3) = c then (if owK i = k then kAmt k else 0) else 0)
      = if d = (turn (3 - i % 3)).symm c then (if owK i = k then kAmt k else 0) else 0 := fun d => by
    congr 1; exact propext (Equiv.eq_symm_apply (turn (3 - i % 3))).symm
  rw [Finset.sum_congr rfl fun d _ => e d, Finset.sum_ite_eq' Finset.univ _ fun _ => _, if_pos (Finset.mem_univ _)]

theorem launch_at (c : Dev nD) (k : Fin 13) (n : ℕ) (h : (∑ i ∈ Finset.range 9, if owK i = k then kAmt k else 0) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_total, h]

theorem total_bar : (∑ i ∈ Finset.range 9, if owK i = 0 then kAmt 0 else 0) = 3 := by decide
theorem total_rcv (s : Fin 3) : (∑ i ∈ Finset.range 9, if owK i = kRcv s then kAmt (kRcv s) else 0) = kAmt (kRcv s) := by
  generalize kAmt (kRcv s) = n
  rw [← Finset.sum_filter, Finset.sum_const, show (Finset.filter (fun i => owK i = kRcv s) (Finset.range 9)).card = 1 from by revert s; decide, one_smul]
theorem total_arcv (s : Fin 3) : (∑ i ∈ Finset.range 9, if owK i = kARcv s then kAmt (kARcv s) else 0) = kAmt (kARcv s) := by
  generalize kAmt (kARcv s) = n
  rw [← Finset.sum_filter, Finset.sum_const, show (Finset.filter (fun i => owK i = kARcv s) (Finset.range 9)).card = 1 from by revert s; decide, one_smul]

theorem creds (c : Dev nD) : (Pipeline.launchCred O₀ c : sProp 𝕄)
    ⊢ iprop(cred (tallyAt (barCell c) () 3) ∗ bigSep Finset.univ fun s : Fin 3 => iprop(cred (tallyAt (kcell (c, kRcv s)) () (kAmt (kRcv s)))
        ∗ cred (tallyAt (kcell (c, kARcv s)) () (kAmt (kARcv s))))) := by
  have h : (Pipeline.launchCred O₀ c : sProp 𝕄) ⊢ bigSep Finset.univ fun k : Fin 13 => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]
    exact BI.Entails.refl _
  refine h.trans ?_
  rw [sems_eq, three_eq, launch_at c 0 3 total_bar, ← total_rcv 0, ← total_rcv 1, ← total_rcv 2, ← total_arcv 0, ← total_arcv 1, ← total_arcv 2,
    ← launch_at c (kRcv 0) _ rfl, ← launch_at c (kRcv 1) _ rfl, ← launch_at c (kRcv 2) _ rfl,
    ← launch_at c (kARcv 0) _ rfl, ← launch_at c (kARcv 1) _ rfl, ← launch_at c (kARcv 2) _ rfl]
  iintro ⟨H0, -, -, -, H4, H5, H6, -, -, -, H10, H11, H12⟩
  isplitl [H0]; · iexact H0
  isplitl [H4 H10]
  · isplitl [H4]; · iexact H4
    iexact H10
  isplitl [H5 H11]
  · isplitl [H5]; · iexact H5
    iexact H11
  isplitl [H6]; · iexact H6
  iexact H12

end Cert.KernelIdeal.Run

end
-- ==== Proof.Launch.lean ====
/-
  The launch: every device's body from what the launch hands it, and the run of @main on the four devices.
-/
module

public import proofs.«01_k».proof.Proof.Deal
public import Idealize.ShloMosaic.Lib.Pipeline.CollectiveSegs
public import Idealize.ShloMosaic.Lib.Quiescent
public import Idealize.ShloMosaic.Lib.Pipeline.ValueKit.Geometry

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body is given and gives back -/

/-- A whole buffer of device `c` at a share. -/
abbrev held (c : Dev nD) (b : Ref sig .tc) (q : PosShare TreeShare) : sProp 𝕄 :=
  ((c : Thread nD τ).loc b) ↦{q} (m ((c : Thread nD τ).loc b))

/-- The arguments as the body reads them: `x` whole, two shares of `w`. -/
def argsIn (c : Dev nD) : sProp 𝕄 :=
  iprop(held m c main_arg0 fullShare ∗ held m c main_arg1 (Transfers.shareTokN fullShare 13) ∗ held m c main_arg1 (Transfers.shareTokN fullShare 14))
/-- The share of `w` kept out. -/
def argKept (c : Dev nD) : sProp 𝕄 := held m c main_arg1 (Transfers.shareDrop fullShare 15)

def start (c : Dev nD) : sProp 𝕄 :=
  iprop(G' m c ∗ (cred (tallyAt (barCell c) () 3) ∗ bigSep Finset.univ fun s : Fin 3 => iprop(cred (tallyAt (kcell (c, kRcv s)) () (kAmt (kRcv s)))
        ∗ cred (tallyAt (kcell (c, kARcv s)) () (kAmt (kARcv s)))))
    ∗ levAts L lv ∗ argsIn m c)
/-- The scratch, at any contents. -/
def scratch (c : Dev nD) : sProp 𝕄 :=
  iprop(anyBuf (F := F) c cc0_scratch0 ∗ anyBuf (F := F) c cc0_scratch1 ∗ anyBuf (F := F) c cc0_scratch2 ∗ anyBuf (F := F) c cc0_scratch3 ∗ anyBuf (F := F) c cc0_scratch4)
def Φ₀ (c : Dev nD) : sProp 𝕄 := iprop(start m c ∗ scratch (F := F) c)
def Φ₁ (c : Dev nD) : sProp 𝕄 :=
  iprop(((bigSep Finset.univ fun k : Fin 13 => semVal (kcell (c, k)) 0) ∗ localSems (F := F) c) ∗ argsIn m c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => beside (outq m c)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt () t0_0.castSucc ∗ (∃ d, stg c ((dats m ρ 0 c).before (0 : Fin 1) t0_0 d)))
def bodyPost (c : Dev nD) : sProp 𝕄 :=
  iprop(Φ₁ m c ∗ (dats m ρ 0 c).owesAt () t0_0.succ ∗ stg c (beside (outq m c)))

theorem buf_whole (c : Dev nD) (b : Ref sig .tc) (q : PosShare TreeShare) (f : b.ty.Contents (Elt F)) :
    (bufAtQ c (Memref.whole b) q f : sProp 𝕄) = (((c : Thread nD τ).loc b) ↦{q} f) := by
  unfold bufAtQ; rw [show (Memref.whole b).view.set = Finset.univ from View.set_whole b]

theorem atPos_split (c : Dev nD) : (bigSep Finset.univ fun k : Fin 13 => (atPos ER (kcell (c, k)) 0 ∅ 0 : sProp 𝕄))
    ⊢ iprop(atPos ER (barCell c) 0 ∅ 0 ∗ bigSep Finset.univ fun s : Fin 3 =>
      iprop(atPos ER (kcell (c, kSnd s)) 0 ∅ 0 ∗ atPos ER (kcell (c, kRcv s)) 0 ∅ 0 ∗ atPos ER (kcell (c, kASnd s)) 0 ∅ 0 ∗ atPos ER (kcell (c, kARcv s)) 0 ∅ 0)) := by
  rw [sems_eq, three_eq]
  iintro ⟨H0, H1, H2, H3, H4, H5, H6, H7, H8, H9, H10, H11, H12⟩
  isplitl [H0]; · iexact H0
  isplitl [H1 H4 H7 H10]
  · isplitl [H1]; · iexact H1
    isplitl [H4]; · iexact H4
    isplitl [H7]; · iexact H7
    iexact H10
  isplitl [H2 H5 H8 H11]
  · isplitl [H2]; · iexact H2
    isplitl [H5]; · iexact H5
    isplitl [H8]; · iexact H8
    iexact H11
  isplitl [H3]; · iexact H3
  isplitl [H6]; · iexact H6
  isplitl [H9]; · iexact H9
  iexact H12

theorem slot_ready (c : Dev nD) (s : Fin 3) :
    iprop((atPos ER (kcell (c, kSnd s)) 0 ∅ 0 ∗ atPos ER (kcell (c, kRcv s)) 0 ∅ 0 ∗ atPos ER (kcell (c, kASnd s)) 0 ∅ 0 ∗ atPos ER (kcell (c, kARcv s)) 0 ∅ 0)
      ∗ payToks (F := F) c s ∗ cred (tallyAt (kcell (c, kRcv s)) () (kAmt (kRcv s))) ∗ cred (tallyAt (kcell (c, kARcv s)) () (kAmt (kARcv s))))
    ⊢ slotGhost (F := F) c s := by
  unfold payToks slotGhost
  iintro ⟨⟨A1, A2, A3, A4⟩, ⟨T1, T2, T3, T4, T5⟩, C1, C2⟩
  isplitl [T1]; · iexact T1
  isplitl [T2]; · iexact T2
  isplitl [T3]; · iexact T3
  isplitl [T4]; · iexact T4
  isplitl [T5]; · iexact T5
  isplitl [A1]; · iexact A1
  isplitl [A2]; · iexact A2
  isplitl [A3]; · iexact A3
  isplitl [A4]; · iexact A4
  isplitl [C1]; · iexact C1
  iexact C2

theorem slots_ready (c : Dev nD) : iprop((bigSep Finset.univ fun k : Fin 13 => (atPos ER (kcell (c, k)) 0 ∅ 0 : sProp 𝕄))
      ∗ (bigSep Finset.univ fun s : Fin 3 => payToks (F := F) c s)
      ∗ bigSep Finset.univ fun s : Fin 3 => iprop(cred (tallyAt (kcell (c, kRcv s)) () (kAmt (kRcv s))) ∗ cred (tallyAt (kcell (c, kARcv s)) () (kAmt (kARcv s)))))
    ⊢ iprop(atPos ER (barCell c) 0 ∅ 0 ∗ slotGhost (F := F) c 0 ∗ slotGhost (F := F) c 1 ∗ slotGhost (F := F) c 2) := by
  rw [← three_eq (fun s => slotGhost (F := F) c s)]
  iintro ⟨Hat, Ht, Hc⟩
  ihave Hat := (atPos_split (F := F) c) $$ Hat
  icases Hat with ⟨Hb, Hat⟩
  isplitl [Hb]; · iexact Hb
  iapply (show iprop((bigSep Finset.univ fun s : Fin 3 =>
      iprop(atPos ER (kcell (c, kSnd s)) 0 ∅ 0 ∗ atPos ER (kcell (c, kRcv s)) 0 ∅ 0 ∗ atPos ER (kcell (c, kASnd s)) 0 ∅ 0 ∗ atPos ER (kcell (c, kARcv s)) 0 ∅ 0))
      ∗ (bigSep Finset.univ fun s : Fin 3 => payToks (F := F) c s)
      ∗ bigSep Finset.univ fun s : Fin 3 => iprop(cred (tallyAt (kcell (c, kRcv s)) () (kAmt (kRcv s))) ∗ cred (tallyAt (kcell (c, kARcv s)) () (kAmt (kARcv s)))))
      ⊢ (bigSep Finset.univ fun s : Fin 3 => slotGhost (F := F) c s : sProp 𝕄) from by
        rw [← bigSep_sep', ← bigSep_sep']
        refine bigSep_mono fun s _ => ?_
        exact slot_ready c s)
  isplitl [Hat]; · iexact Hat
  isplitl [Ht]; · iexact Ht
  iexact Hc

theorem out_post (c : Dev nD) : bodyOut m c ⊢ bodyPost m ρ c := by
  unfold bodyOut bodyPost Φ₁ argsIn scratch
  iintro ⟨⟨%W, HO⟩, Hx, Hw3, Hw4, Hout, ⟨%f0, H0⟩, H1, H2, H3, H4, Hs, Hl⟩
  isplitl [Hx Hw3 Hw4 H0 H1 H2 H3 H4 Hs Hl]
  · isplitl [Hs Hl]
    · isplitl [Hs]; · iexact Hs
      iexact Hl
    isplitl [Hx Hw3 Hw4]
    · isplitl [Hx]; · iapply (Entails.of_eq (buf_whole c main_arg0 fullShare _)); iexact Hx
      isplitl [Hw3]; · iapply (Entails.of_eq (buf_whole c main_arg1 _ _)); iexact Hw3
      iapply (Entails.of_eq (buf_whole c main_arg1 _ _)); iexact Hw4
    isplitl [H0]
    · unfold anyBuf; iexists f0; iapply (Entails.of_eq (buf_whole c cc0_scratch0 fullShare f0)); iexact H0
    isplitl [H1]; · iexact H1
    isplitl [H2]; · iexact H2
    isplitl [H3]; · iexact H3
    iexact H4
  isplitl [HO]
  · unfold Dat.owesAt Pipeline.owesWithin
    rw [show (dats m ρ 0 c).owed t0_0.succ = 0 from rfl]
    iexists W
    isplitr; · ipureintro; exact fun _ _ => Or.inl trivial
    iexact HO
  iexists (beside (outq m c)); isplitr; · (ipureintro; rfl)
  iapply (Entails.of_eq (buf_whole c cc0_stg0_0 fullShare _)); iexact Hout

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole main_arg0) (Memref.isWhole_whole _) (Memref.whole main_arg1) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10) (fun _ => bodyPost m ρ c)
  unfold bodyPre Φ₀ start G' linear scratch argsIn
  iintro ⟨⟨⟨⟨%K, ⟨#HI, #HR⟩, Hat, Htk, Hlc⟩, ⟨Hcb, Hcr⟩, #Hlv, Hx, Hw3, Hw4⟩, H0, H1, H2, H3, H4⟩, Ho, ⟨%d, ⟨%fo, -, Hout⟩⟩⟩
  unfold Dat.owesAt Pipeline.owesWithin
  icases Ho with ⟨%W, %hW, HO⟩
  rw [show (dats m ρ 0 c).owed t0_0.castSucc = Ow c 9 from rfl]
  ihave Hsl := (slots_ready (F := F) c) $$ [Hat Htk Hcr]
  · isplitl [Hat]; · iexact Hat
    isplitl [Htk]; · iexact Htk
    iexact Hcr
  icases Hsl with ⟨Hab, Hs0, Hs1, Hs2⟩
  ihave H1 := (xs_open (F := F) c) $$ H1
  ihave H2 := (xg_open (F := F) c) $$ H2
  ihave H4 := (am_open (F := F) c) $$ H4
  ihave H3 := (wb_open (F := F) c) $$ H3
  unfold anyBuf wbAny
  icases H0 with ⟨%fx, H0⟩
  icases H3 with ⟨⟨%fw0, Hwb0⟩, %fw1, Hwb1⟩
  iapply ((body_run m K c fo fx fw0 fw1).trans (Idealize.SL.Sem.wp_mono _ _ _ (fun _ => out_post m ρ c)))
  isplitl
  · isplitr; · iexact HI
    isplitr; · iexact HR
    isplitr; · iexact Hlv
    isplitl [Hs0]; · iexact Hs0
    isplitl [Hs1]; · iexact Hs1
    isplitl [Hs2]; · iexact Hs2
    isplitl [Hab]; · iexact Hab
    isplitl [Hcb]; · iexact Hcb
    isplitl [Hlc]; · iexact Hlc
    isplitl [Hx]; · iapply (Entails.of_eq (buf_whole c main_arg0 fullShare _).symm); iexact Hx
    isplitl [Hw3]; · iapply (Entails.of_eq (buf_whole c main_arg1 _ _).symm); iexact Hw3
    isplitl [Hw4]; · iapply (Entails.of_eq (buf_whole c main_arg1 _ _).symm); iexact Hw4
    isplitl [Hout]; · iapply (Entails.of_eq (buf_whole c cc0_stg0_0 fullShare _).symm); iexact Hout
    isplitl [H0]; · iapply (Entails.of_eq (buf_whole c cc0_scratch0 fullShare _).symm); iexact H0
    isplitl [Hwb0]; · iexact Hwb0
    isplitl [Hwb1]; · iexact Hwb1
    isplitl [H1]; · iexact H1
    isplitl [H2]; · iexact H2
    isplitl [H4]; · iexact H4
    iexists W; iexact HO
  · ipureintro; trivial

/-! ## The launch's side conditions -/

theorem share_eq (c : Dev nD) (w : Fin cfg0.W) : (dats m ρ 0 c).share w = fullShare := by unfold Dat.share; split <;> rfl

theorem drop_last (A B C : sProp 𝕄) : iprop(A ∗ B ∗ C) ⊢ iprop(B ∗ A) := by
  iintro ⟨H4, H3, -⟩
  isplitl [H3]; · iexact H3
  iexact H4
theorem w_shares (c : Dev nD) : held m c main_arg1 fullShare
    ⊢ iprop(argKept m c ∗ held m c main_arg1 (Transfers.shareTokN fullShare 13) ∗ held m c main_arg1 (Transfers.shareTokN fullShare 14)) := by
  refine (show _ ⊢ _ from (Transfers.pointsTo_toks_range fullShare 15).1).trans (sep_mono_right ?_)
  rw [Finset.range_add_one, bigSep_insert Finset.notMem_range_self, Finset.range_add_one, bigSep_insert Finset.notMem_range_self]
  exact drop_last _ _ _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ argKept m c) := by
  rw [Pipeline.unscopedRestP_none, unscopedRest0_eq]
  iintro ⟨⟨Hx, Hw⟩, Hlev, Hcr, -, HG⟩
  ihave Hc := (creds (F := F) c) $$ Hcr
  ihave Hw := (w_shares m c) $$ Hw
  icases Hw with ⟨Hk, Hw3, Hw4⟩
  imodintro
  unfold start argsIn argKept
  isplitr [Hk]
  · isplitl [HG]; · iexact HG
    isplitl [Hc]; · iexact Hc
    isplitl [Hlev]; · iexact Hlev
    isplitl [Hx]; · iexact Hx
    isplitl [Hw3]; · iexact Hw3
    iexact Hw4
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch anyBuf
  iintro ⟨Hs, -, Hr⟩
  isplitl [Hs]; · iexact Hs
  iexact Hr

theorem phi1_exit (c : Dev nD) :
    (dats m ρ 0 c).Φ (Fin.last cfg0.N) ⊢ iprop((unscopedSems0 c ∗ held m c main_arg0 fullShare) ∗ Pipeline.ownSems0 osem c ∗ Pipeline.scopedRest cfg0.spec c) := by
  rw [show (dats m ρ 0 c).Φ (Fin.last cfg0.N) = Φ₁ m c from rfl, scopedRest0_eq]
  unfold Φ₁ argsIn
  iintro ⟨Hsem, ⟨Hx, -, -⟩, Hr⟩
  ihave Hsem := (sems_join (F := F) c) $$ Hsem
  icases Hsem with ⟨Hu, Ho⟩
  isplitl [Hu Hx]
  · isplitl [Hu]; · iexact Hu
    iexact Hx
  isplitl [Ho]; · iexact Ho
  unfold scratch anyBuf
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_local c _ 9 (by fin_cases w <;> fin_cases s <;> decide) le_rfl
    · exact mayWait_local c _ 0 (by fin_cases w <;> fin_cases s <;> decide) (Nat.zero_le _)

/-! ## The result array -/

theorem out_final (c : Dev nD) : (dats m ρ 0 c).arrAt (0 : Fin 1) cfg0.N = beside (outq m c) := by
  refine (dats m ρ 0 c).arrAt_eq_of_after_last 0 t0_0 (by decide +kernel) _ fun j => ?_
  rfl

/-! ## The run -/

/-- Each device ends with its rows of the result, its arguments as they were. -/
def Good (r : PUnit × MemSt nD τ sig (Elt F)) : Prop :=
  ∀ c : Dev nD, r.2.mem ((c.tc : Thread nD τ).loc main_v1) = beside (outq m c)
    ∧ r.2.mem ((c.tc : Thread nD τ).loc main_arg0) = m ((c.tc : Thread nD τ).loc main_arg0)
    ∧ r.2.mem ((c.tc : Thread nD τ).loc main_arg1) = m ((c.tc : Thread nD τ).loc main_arg1)

set_option maxRecDepth 8000 in
theorem run_main : θ_run defs (onTc (τ := τ) (main (F := F))) (s₀ m ρ) (fun r => Good m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      iintro Hu
      ihave H := (u₀_split (F := F)) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ held m c main_arg0 fullShare)) (Z := argKept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold argKept
      iintro ⟨⟨Hu, Hx⟩, Hw, HSI⟩
      icombine HSI Hx gives %hx
      icombine HSI Hw gives %hw
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ hx, Buf.eq_of_forall_mem_univ hw⟩
      iexact HSI)
    (hQ := fun _ h hs => ⟨fun c => ⟨((h c).1 (0 : Fin 1)).trans (out_final m ρ c), (h c).2.2.2⟩, sem_eq_zero hs fun c => (h c).2.2.1⟩)

/-- The arguments end as they were and every semaphore is back at zero. -/
theorem run_kept : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => (h.1 c).2, h.2⟩) (run_main m ρ)

end Cert.KernelIdeal.Run

end
-- ==== Proof.Num.lean ====
/-
  The arithmetic of one entry, and a largest magnitude by its upper bounds, over extended reals.
-/
module

public import Idealize.ShloMosaic.PureOps.Ideal
public import Idealize.ShloMosaic.PureOps.Ideal.Laws
public import Idealize.ShloMosaic.PureOps.Reduce
public import Idealize.ShloMosaic.Lib.Pipeline.Value
public import Idealize.ShloMosaic.Lib.IdealHost

@[expose] public section

noncomputable section

namespace Cert.Num

open Idealize.ShloMosaic

/-- The largest value of the eight-bit format, and its negative. -/
abbrev hi : EReal := Ideal.ofBits .f32 0x43E00000#32
abbrev lo : EReal := Ideal.ofBits .f32 0xC3E00000#32

/-- An entry `v` scaled by the largest magnitude `g`, clipped, and scaled back. -/
def requant (g v : EReal) : EReal := min hi (max lo (Ideal.div v (Ideal.div g hi))) * Ideal.div g hi

/-- Multiplying by the scale's inverse instead of dividing by the scale changes nothing: at a scale of zero both results are
    zero, and elsewhere the two quotients are one. -/
theorem requant_inv (g v : EReal) :
    min hi (max lo (v * Ideal.div (Ideal.ofBits .f32 0x3F800000#32) (Ideal.div g hi))) * Ideal.div g hi = requant g v := by
  unfold requant
  by_cases h : Ideal.div g hi = 0
  · rw [h, mul_zero, mul_zero]
  · generalize Ideal.div g hi = s at h ⊢
    unfold Ideal.div
    rw [if_neg h, if_neg h, Ideal.ofBits_one_f32, one_mul]

/-- The word of minus infinity. -/
theorem ofBits_bot : Ideal.ofBits .f32 0xFF800000#32 = ⊥ := by simp [Ideal.ofBits, Ideal.ieee]

/-- A magnitude is not negative. -/
theorem abs_nonneg (v : EReal) : 0 ≤ max v (-v) := by
  rcases le_total 0 v with h | h
  · exact le_max_of_le_left h
  · exact le_max_of_le_right (EReal.neg_nonneg.mpr h)

/-- What bounds a maximum taken over every entry of a vector bounds each of them, and conversely; -/
theorem redK_le {s t : Shape} {axes : List (Fin s.rank)} (src : FVec Ideal s .f32) (h : s.Reduces axes t) (hφ : FKind.Formats .f32)
    (hacc) (j : t.Idx) (ht : ∀ i, h.drop i = j) (B : EReal) :
    multiReduction .maximumf axes t src 0xFF800000#32 h hφ hacc j ≤ B ↔ ∀ i, src i ≤ B := by
  rw [multiReduction_maximumf_eq_fold]
  show Finset.fold max (Ideal.ofBits .f32 0xFF800000#32) src _ ≤ B ↔ _
  rw [Finset.fold_max_le, ofBits_bot]
  exact ⟨fun H i => H.2 i (Finset.mem_filter.mpr ⟨Finset.mem_univ _, ht i⟩), fun H => ⟨bot_le, fun i _ => H i⟩⟩

/-- so for the host's maximum from minus infinity. -/
theorem redH_le {s t u : Shape} {axes : List (Fin s.rank)} (src : FVec Ideal s .f32) (h : s.ReducesTo axes t) (hu : 0 < u.numel)
    (j : t.Idx) (ht : ∀ i, h.drop i = j) (B : EReal) :
    Host.reduce FloatOps.maximumf src (constant (F := Ideal) u .f32 0xFF800000#32) h hu j ≤ B ↔ ∀ i, src i ≤ B := by
  rw [Host.reduce_eq_fold]
  show Finset.fold max (Ideal.ofBits .f32 0xFF800000#32) src _ ≤ B ↔ _
  rw [Finset.fold_max_le, ofBits_bot]
  exact ⟨fun H i => H.2 i (Finset.mem_filter.mpr ⟨Finset.mem_univ _, ht i⟩), fun H => ⟨bot_le, fun i _ => H i⟩⟩

/-- What holds of every entry of a reshaped vector holds of every entry of the vector. -/
theorem forall_cast {s t : Shape} {α : Type} (x : s.Idx → α) (h : s.ShapeCasts t) (P : α → Prop) :
    (∀ i, P (shapeCast t x h i)) ↔ ∀ i, P (x i) := by
  have H : ∀ i, shapeCast t x h i = x (Shape.reshapeEquiv h i) := fun _ => rfl
  simp only [H]
  exact (Shape.reshapeEquiv h).forall_congr_left.trans ⟨fun K i => by simpa using K i, fun K i => by simpa using K _⟩

end Cert.Num
-- ==== Proof.Ker.lean ====
/-
  The running sums over extended reals: four blocks' products, in whatever order they arrive.
-/
module

public import proofs.«01_k».proof.Proof.Vals
public import proofs.«01_k».proof.Proof.Num
public import Idealize.ShloMosaic.Lib.MatmulPlain
public import Idealize.ShloMosaic.Lib.ValueLayout
public import Idealize.ShloMosaic.Lib.Layout

@[expose] public section

noncomputable section

namespace Cert.KernelIdeal.Run

open Cert.KernelIdeal Cert.KernelIdeal.Gen Cert.Num
open Idealize.ShloMosaic
open Idealize.ShloMosaic.TcCoe
open Idealize.ShloMosaic.ValueIdx

variable (m : (ℓ : Loc nD τ sig) → Buf (Elt Ideal) ℓ)

/-! ## One block's product -/

/-- Rounding to the narrow format and back, through a slot's shape, is the block itself. -/
theorem lf_eq (p c : Dev nD) : lf m p c = xblk m p c := by
  show shapeCast S1024x1024 (shapeCast S1x1024x1024 (xblk m p c) _) _ = _
  exact shapeCast_shapeCast _ _ _

theorem wld_eq (p k : Dev nD) (n : Fin 4) (h : S1x1024x2048.ShapeCasts S1024x2048) : shapeCast S1024x2048 (wld m p k n) h = wblk m p k n :=
  shapeCast_shapeCast _ _ _

/-- A block of `x` times a block of `w`, at an entry. -/
def prod (p c : Dev nD) (n : Fin 4) (i : S1024x2048.Idx) : EReal :=
  ∑ b : Fin 1024, xblk m p c (ix2 (i 0) b) * wblk m c p n (ix2 b (i 1))

theorem mm_eq (A : FVec Ideal S1024x1024 .f32) (B : FVec Ideal S1024x2048 .f32) (i : S1024x2048.Idx) :
    matmul dot_S1024x1024_S1024x2048_S1024x2048_1_0_0_1_n_n none A B (constant (F := Ideal) S1024x2048 .f32 0x00000000#32) i
      = ∑ b : Fin 1024, A (ix2 (i 0) b) * B (ix2 b (i 1)) := by
  obtain ⟨r, q, rfl⟩ : ∃ r q, i = ix2 r q := ⟨_, _, eq_ix2 i⟩
  refine (Ideal.matmul_plain_apply none A B _ r q).trans ?_
  show Ideal.ofBits .f32 0x00000000#32 + _ = _
  rw [Ideal.ofBits_zero_f32, zero_add]

theorem mm_prod (p c : Dev nD) (n : Fin 4) (h : S1x1024x2048.ShapeCasts S1024x2048) (i : S1024x2048.Idx) :
    matmul dot_S1024x1024_S1024x2048_S1024x2048_1_0_0_1_n_n none (lf m p c)
      (shapeCast S1024x2048 (wld m c p n) h : FVec Ideal S1024x2048 .f32) (constant (F := Ideal) S1024x2048 .f32 0x00000000#32) i = prod m p c n i := by
  rw [mm_eq, lf_eq, wld_eq]; rfl

theorem first_eq (c : Dev nD) (n : Fin 4) (i : S1024x2048.Idx) : acc0 m c n i = prod m c c n i := mm_prod m c c n _ i

/-- Adding one more block's product. -/
theorem next_eq (p c : Dev nD) (n : Fin 4) (A : FVec Ideal S1024x2048 .bf16) (i : S1024x2048.Idx) :
    k0_pay15 (lf m p c) (wld m c p n) A i = A i + prod m p c n i := by
  show shapeCast S1024x2048 A _ i + matmul dot_S1024x1024_S1024x2048_S1024x2048_1_0_0_1_n_n none (lf m p c) (shapeCast S1024x2048 (wld m c p n) _ : FVec Ideal S1024x2048 .f32)
      (constant (F := Ideal) S1024x2048 .f32 0x00000000#32) i = _
  rw [mm_prod, shapeCast_self]

/-- All four blocks' products, in whatever order. -/
theorem acc3_eq (c : Dev nD) (n : Fin 4) (i : S1024x2048.Idx) : acc3 m c n i = ∑ p : Dev nD, prod m p c n i := by
  unfold acc3 acc2 acc1
  rw [next_eq, next_eq, next_eq, first_eq]
  generalize hf : (fun p => prod m p c n i) = f
  have hf' : ∀ p, prod m p c n i = f p := fun p => congrFun hf p
  simp only [hf']
  rw [Fin.sum_univ_four]
  fin_cases c
  · show f 0 + f 3 + f 1 + f 2 = _; ac_rfl
  · show f 1 + f 0 + f 2 + f 3 = _; ac_rfl
  · show f 2 + f 1 + f 3 + f 0 = _; ac_rfl
  · show f 3 + f 2 + f 0 + f 1 = _; ac_rfl

end Cert.KernelIdeal.Run
-- ==== Proof.Top.lean ====
/-
  The largest magnitude and the result, over extended reals, from the finished sums.
-/
module

public import proofs.«01_k».proof.Proof.Ker
public import Idealize.ShloMosaic.Lib.MatmulPlain
public import Idealize.ShloMosaic.Lib.ValueLayout
public import Idealize.ShloMosaic.Lib.Layout

@[expose] public section

noncomputable section

namespace Cert.KernelIdeal.Run

open Cert.KernelIdeal Cert.KernelIdeal.Gen Cert.Num
open Idealize.ShloMosaic
open Idealize.ShloMosaic.TcCoe
open Idealize.ShloMosaic.ValueIdx

variable (m : (ℓ : Loc nD τ sig) → Buf (Elt Ideal) ℓ)

/-! ## The largest magnitude -/

/-- A vector of one entry has one index. -/
theorem one_idx (i j : S1.Idx) : i = j := by
  funext a
  match a with
  | ⟨0, _⟩ => exact Subsingleton.elim (α := Fin 1) _ _

/-- The largest magnitude in a columns block, as the kernel takes it, -/
def topOf (Y : FVec Ideal S1024x2048 .f32) : EReal :=
  extractAt ![0, 0, 0] (shapeCast S1x1x1 (multiReduction (F := Ideal) .maximumf [1, 2] S1
    (shapeCast S1x1024x2048 (absf Y) shapeCasts_S1024x2048_S1x1024x2048) 0xFF800000#32 reduces_S1x1024x2048_S1 (.inl rfl) rfl)
    shapeCasts_S1_S1x1x1) inpos_S1x1x1_p0_0_0

/-- The one entry of a vector of one entry, read in another shape. -/
theorem only3 (V : FVec Ideal S1 .f32) : ∃ j, extractAt ![0, 0, 0] (shapeCast S1x1x1 V shapeCasts_S1_S1x1x1) inpos_S1x1x1_p0_0_0 = V j := ⟨_, rfl⟩
theorem only4 (V : FVec Ideal S1 .f32) :
    ∃ j, extractAt ![0, 0, 0, 0] (shapeCast S1x1x1x1 V shapeCasts_S1_S1x1x1x1) inpos_S1x1x1x1_p0_0_0_0 = V j := ⟨_, rfl⟩

/-- by its upper bounds. -/
theorem topOf_le (Y : FVec Ideal S1024x2048 .f32) (B : EReal) : topOf Y ≤ B ↔ ∀ i, max (Y i) (-Y i) ≤ B := by
  unfold topOf
  obtain ⟨j, hj⟩ := only3 (multiReduction (F := Ideal) .maximumf [1, 2] S1
    (shapeCast S1x1024x2048 (absf Y) shapeCasts_S1024x2048_S1x1024x2048) 0xFF800000#32 reduces_S1x1024x2048_S1 (.inl rfl) rfl)
  rw [hj]
  exact (redK_le _ reduces_S1x1024x2048_S1 (.inl rfl) rfl j (fun i => one_idx _ _) B).trans (forall_cast (absf Y) _ (· ≤ B))

/-- The larger of two, as the kernel writes it. -/
theorem larger_eq (a b : EReal) : Scalar.maximumf (F := Ideal) (φ := .f32) a b = max a b := rfl

/-- The four steps of the running maximum. -/
theorem pay27_eq (L : FVec Ideal S1024x1024 .f32) (W : Vec Ideal S1x1024x2048 .f32) (A : Vec Ideal S1024x2048 .bf16) :
    k0_pay27 L W A = Scalar.maximumf (F := Ideal) (φ := .f32) (Scalar.ofBits .f32 0x00000000#32) (topOf (k0_pay25 L W A)) := by
  unfold k0_pay27 topOf; rfl
theorem pay31_eq (v : EReal) (L : FVec Ideal S1024x2048 .f32) (A : Vec Ideal S1024x2048 .bf16) :
    k0_pay31 (F := Ideal) v L A = Scalar.maximumf (F := Ideal) (φ := .f32) v (topOf (k0_pay29 L A)) := by
  unfold k0_pay31 topOf; rfl
theorem pay37_eq (L : FVec Ideal S1024x1024 .f32) (v : EReal) (L' : FVec Ideal S1024x1024 .f32) (W W' : Vec Ideal S1x1024x2048 .f32)
    (A A' : Vec Ideal S1024x2048 .bf16) :
    k0_pay37 (F := Ideal) L v (k0_pay34 L' W' A') W A
      = Scalar.maximumf (F := Ideal) (φ := .f32) (Scalar.maximumf (F := Ideal) (φ := .f32) v (topOf (k0_pay32 L' W' A'))) (topOf (k0_pay35 L W A)) := by
  unfold k0_pay37 k0_pay34 topOf; rfl

/-- The sum before each of the four maxima is the one stored. -/
theorem pay25_eq (L : FVec Ideal S1024x1024 .f32) (W : Vec Ideal S1x1024x2048 .f32) (A : Vec Ideal S1024x2048 .bf16) :
    k0_pay25 L W A = k0_pay15 L W A := rfl
theorem pay29_eq (L : FVec Ideal S1024x1024 .f32) (W : Vec Ideal S1x1024x2048 .f32) (A : Vec Ideal S1024x2048 .bf16) :
    k0_pay29 (k0_pay28 L W) A = k0_pay15 L W A := rfl
theorem pay32_eq (L : FVec Ideal S1024x1024 .f32) (W : Vec Ideal S1x1024x2048 .f32) (A : Vec Ideal S1024x2048 .bf16) :
    k0_pay32 L W A = k0_pay15 L W A := rfl
theorem pay35_eq (L : FVec Ideal S1024x1024 .f32) (W : Vec Ideal S1x1024x2048 .f32) (A : Vec Ideal S1024x2048 .bf16) :
    k0_pay35 L W A = k0_pay15 L W A := rfl

/-- The largest magnitude a device finds, columns block by columns block, -/
theorem am_eq (c : Dev nD) :
    am m c = max (max (max (max (Ideal.ofBits .f32 0x00000000#32) (topOf (acc3 m c 0))) (topOf (acc3 m c 1))) (topOf (acc3 m c 2)))
      (topOf (acc3 m c 3)) := by
  unfold am
  rw [pay37_eq, pay31_eq, pay27_eq, pay25_eq, pay29_eq, pay32_eq, pay35_eq, larger_eq, larger_eq, larger_eq, larger_eq]
  unfold acc3
  rfl

/-- by its upper bounds. -/
theorem am_le (c : Dev nD) (B : EReal) : am m c ≤ B ↔ 0 ≤ B ∧ ∀ n i, max (acc3 m c n i) (-acc3 m c n i) ≤ B := by
  rw [am_eq, max_le_iff, max_le_iff, max_le_iff, max_le_iff, topOf_le, topOf_le, topOf_le, topOf_le, Ideal.ofBits_zero_f32]
  constructor
  · rintro ⟨⟨⟨⟨h, a0⟩, a1⟩, a2⟩, a3⟩
    refine ⟨h, fun n => ?_⟩
    match n with
    | 0 => exact a0
    | 1 => exact a1
    | 2 => exact a2
    | 3 => exact a3
  · rintro ⟨h, a⟩
    exact ⟨⟨⟨⟨h, a 0⟩, a 1⟩, a 2⟩, a 3⟩

/-- Every device's magnitude is in some slot. -/
theorem slot_of : ∀ c p : Dev nD, ∃ k : Fin 4, rel c (3 - k.val) = p := by decide

/-- What a device takes for the largest of all the devices' magnitudes, -/
def gmax (c : Dev nD) : EReal :=
  extractAt ![0, 0, 0, 0] (shapeCast S1x1x1x1 (multiReduction (F := Ideal) .maximumf [1, 2, 3] S1
    (shapeCast S1x4x8x128 (amAll m c) shapeCasts_S4x8x128_S1x4x8x128) 0xFF800000#32 reduces_S1x4x8x128_S1 (.inl rfl) rfl) shapeCasts_S1_S1x1x1x1)
    inpos_S1x1x1x1_p0_0_0_0

/-- by its upper bounds. -/
theorem gmax_le (c : Dev nD) (B : EReal) : gmax m c ≤ B ↔ ∀ p n i, max (acc3 m p n i) (-acc3 m p n i) ≤ B := by
  unfold gmax
  obtain ⟨j, hj⟩ := only4 (multiReduction (F := Ideal) .maximumf [1, 2, 3] S1
    (shapeCast S1x4x8x128 (amAll m c) shapeCasts_S4x8x128_S1x4x8x128) 0xFF800000#32 reduces_S1x4x8x128_S1 (.inl rfl) rfl)
  rw [hj]
  refine ((redK_le _ reduces_S1x4x8x128_S1 (.inl rfl) rfl j (fun i => one_idx _ _) B).trans (forall_cast (amAll m c) _ (· ≤ B))).trans ?_
  constructor
  · intro H p n i
    obtain ⟨k, rfl⟩ := slot_of c p
    exact ((am_le m _ B).1 (H (ix3 k (0 : Fin 8) (0 : Fin 128)))).2 n i
  · intro H i
    exact (am_le m _ B).2 ⟨(Num.abs_nonneg _).trans (H 0 0 (ix2 (0 : Fin 1024) (0 : Fin 2048))), fun n i => H _ n i⟩

/-! ## The result -/

theorem outq_eq (c : Dev nD) (n : Fin 4) (i : S1024x2048.Idx) : outq m c n i = requant (gmax m c) (acc3 m c n i) := by
  rw [← requant_inv]
  show min hi (max lo (shapeCast S1024x2048 (acc3 m c n) _ i * _)) * _ = _
  rw [shapeCast_self]
  rfl

end Cert.KernelIdeal.Run
-- ==== Proof.Ref.lean ====
/-
  What the reference computes, entry by entry.
-/
module

public import proofs.«01_k».proof.Proof.Gen.ReferenceIdeal
public import proofs.«01_k».proof.Proof.Gen.ReferenceIdeal.Value
public import proofs.«01_k».proof.Proof.Num
public import Idealize.ShloMosaic.Lib.StackMember
public import Idealize.ShloMosaic.Lib.Pipeline.ValueKit.Geometry
public import Idealize.ShloMosaic.Lib.StableHlo.Run

@[expose] public section

noncomputable section

namespace Cert.ReferenceIdeal.Whole

open Cert.ReferenceIdeal Cert.ReferenceIdeal.Gen Cert.Num
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The two arguments, -/
abbrev X : S4096x4096.Idx → EReal := m ((c : Thread nD τ).loc main_arg0)
abbrev W : S4096x8192.Idx → EReal := m ((c : Thread nD τ).loc main_arg1)
/-- their product, -/
def y (i : S4096x8192.Idx) : EReal := ∑ k : Fin 4096, X m c (ix2 (i 0) k) * W m c (ix2 k (i 1))

/-- as the program writes it, -/
def dot : FVec Ideal S4096x8192 .f32 :=
  Host.dotGeneral (F := Ideal) (φ₁ := .f32) (φ₂ := .f32) dot_S4096x4096_S4096x8192_S4096x8192_1_0_0_1_n_n none (X m c) (W m c)
theorem dot_eq : dot m c = y m c := by
  funext i
  obtain ⟨r, q, rfl⟩ : ∃ r q, i = ix2 r q := ⟨_, _, eq_ix2 i⟩
  exact StackMember.dotGeneral_plain_apply none _ _ r q
theorem product_eq : V m c main_v0 = y m c := by
  rw [← dot_eq]
  unfold_abbrev_sides
  after_results
  rfl

/-- and its largest magnitude, -/
def amax : EReal := Host.reduce (FloatOps.maximumf (F := Ideal) (φ := .f32)) (Host.absf (F := Ideal) (φ := .f32) (y m c)) (constant (F := Ideal) S_ .f32 0xFF800000#32) reducesTo_S4096x8192_S_d0_1 h_S_ ix0

/-- by its upper bounds. -/
theorem amax_le (B : EReal) : amax m c ≤ B ↔ ∀ i, max (y m c i) (-y m c i) ≤ B := by
  exact redH_le _ reducesTo_S4096x8192_S_d0_1 h_S_ ix0 (fun i => funext fun a => a.elim0) B

theorem largest_eq (j : S1x1.Idx) : V m c main_v3 j = amax m c := by
  have h : V m c main_v3 = shapeCast S1x1 (Host.reduce (FloatOps.maximumf (F := Ideal) (φ := .f32)) (Host.absf (F := Ideal) (φ := .f32) (dot m c))
      (constant (F := Ideal) S_ .f32 0xFF800000#32) reducesTo_S4096x8192_S_d0_1 h_S_) shapeCasts_S_S1x1 := by
    unfold_abbrev_sides
    after_results
    rfl
  rw [h, dot_eq]
  unfold amax
  generalize Host.reduce (FloatOps.maximumf (F := Ideal) (φ := .f32)) _ _ _ _ = Z
  exact congrArg Z (funext fun a => a.elim0)

/-- The result. -/
def out (i : S4096x8192.Idx) : EReal := requant (amax m c) (y m c i)

/-- What the last step leaves, for any product and any largest magnitude. -/
theorem step_eq (x0 : Vec Ideal S4096x8192 .f32) (x1 : Vec Ideal S1x1 .f32) (g : EReal) (h : ∀ j, x1 j = g) (j : S4096x8192.Idx) :
    out0_2 x0 x1 j = requant g (x0 j) := by
  have e0 : View.ld x0 r0_1 = x0 := View.ld_unit_lit _ _ (by decide)
  have e1 : View.ld x1 r0_0 = x1 := View.ld_unit_lit _ _ (by decide)
  have ej : Cert.ReferenceIdeal.Value.ix2_0 j = j := funext fun | 0 => rfl | 1 => rfl
  unfold out0_2
  refine (Cert.ReferenceIdeal.Value.canon2_eq _ _ _).trans ?_
  rw [e0, e1]
  unfold Cert.ReferenceIdeal.Value.E2
  rw [ej, h]
  rfl

theorem emb0 (j : S4096x8192.Idx) : ((cfg0.win 0).blk t0_0).view.emb j = j := by
  have hi : ∀ a, (cfg0.win 0).index t0_0 a = 0 := by decide +kernel
  funext a
  apply Fin.ext
  exact Pipeline.Window.rect_emb_val_of_index_zero _ _ _ (hi a) _

theorem blk0_eq : iblk m c 0 t0_0 = V m c main_v0 := by
  funext j
  exact congrArg (V m c main_v0) (emb0 j)

theorem blk1_at (Z : (b : Ref sig .tc) → Buf (Elt Ideal) ((c : Thread nD τ).loc b)) (g : EReal)
    (h : ∀ j : S1x1.Idx, Z main_v3 j = g) (j : S1x1.Idx) :
    ((cfg0.win 1).blk t0_0).view.read (Elt Ideal) (Z (Pipeline.arrRef spec0 1)) j = g :=
  h _
theorem blk1_eq (j : S1x1.Idx) : iblk m c 1 t0_0 j = amax m c :=
  blk1_at c (V m c) (amax m c) (largest_eq m c) j

theorem after_eq (j : S4096x8192.Idx) : (dats m 0 c).after 2 t0_0 j = out m c j := by
  rw [after0_2]
  refine (step_eq _ _ (amax m c) (blk1_eq m c) j).trans ?_
  rw [blk0_eq, product_eq]
  unfold out
  with_reducible rfl

/-- The result buffer at the end. -/
theorem out_final : (dats m 0 c).arrAt 2 cfg0.N = out m c := by
  have h := after_eq m c
  generalize out m c = Z at h
  exact (dats m 0 c).arrAt_eq_of_after_last 2 t0_0 (by decide +kernel) Z fun j => h j

end Cert.ReferenceIdeal.Whole
-- ==== Proof.Glue.lean ====
/-
  The kernel's blocks against the whole product: entry by entry, the same sums, so the same largest magnitude and the same result.
-/
module

public import proofs.«01_k».proof.Proof.Top
public import proofs.«01_k».proof.Proof.Ref
public import Idealize.ShloMosaic.Lib.Layout
public import Idealize.ShloMosaic.Lib.Pipeline.ValueKit.Acc

@[expose] public section

noncomputable section

namespace Cert.Glue

open Cert.KernelIdeal Cert.KernelIdeal.Gen Cert.KernelIdeal.Run Cert.Num
open Idealize.ShloMosaic
open Idealize.ShloMosaic.TcCoe
open Idealize.ShloMosaic.ValueIdx

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The whole arrays, -/
abbrev X : Cert.ReferenceIdeal.S4096x4096.Idx → EReal := Cert.ReferenceIdeal.Whole.X m' 0
abbrev W : Cert.ReferenceIdeal.S4096x8192.Idx → EReal := Cert.ReferenceIdeal.Whole.W m' 0

/-- and that each device holds its columns of the first and all of the second. -/
def Dealt : Prop := ∀ c : Dev nD,
  m ((c.tc : Thread nD τ).loc main_arg0) = Layout.block ⟨2, ![4096, 1024]⟩ ⟨2, ![4096, 4096]⟩ 1 4 c (X m')
  ∧ m ((c.tc : Thread nD τ).loc main_arg1) = W m'

/-- Row (or depth) `a` of block `c`, -/
def row (c : Fin 4) (a : Fin 1024) : Fin 4096 := ⟨c.val * 1024 + a.val, by omega⟩
/-- column `q` of block `n`, -/
def col (n : Fin 4) (q : Fin 2048) : Fin 8192 := ⟨2048 * n.val + q.val, by omega⟩
/-- and both. -/
def at2 (c n : Fin 4) (i : S1024x2048.Idx) : S4096x8192.Idx := ix2 (row c (i 0)) (col n (i 1))

variable {m m'}

theorem xblk_at (h : Dealt m m') (p c : Dev nD) (a b : Fin 1024) :
    xblk m p c (ix2 a b) = X m' (ix2 (row c a) (row p b)) := by
  unfold xblk
  rw [(h p).1]
  refine congrArg (X m') (funext fun s => Fin.ext ?_)
  match s with
  | 0 => show 1024 * c.val + 1 * a.val = c.val * 1024 + a.val; omega
  | 1 => show p.val * 1024 + (0 + 1 * b.val) = p.val * 1024 + b.val; omega

theorem wblk_at (h : Dealt m m') (c p : Dev nD) (n : Fin 4) (b : Fin 1024) (q : Fin 2048) :
    wblk m c p n (ix2 b q) = W m' (ix2 (row p b) (col n q)) := by
  unfold wblk
  rw [(h c).2]
  refine congrArg (W m') (funext fun s => Fin.ext ?_)
  match s with
  | 0 => show 1024 * p.val + 1 * b.val = p.val * 1024 + b.val; omega
  | 1 => show 2048 * n.val + 1 * q.val = 2048 * n.val + q.val; omega

/-- A device's finished sums are its rows of the whole product. -/
theorem acc3_at (h : Dealt m m') (c : Dev nD) (n : Fin 4) (i : S1024x2048.Idx) :
    acc3 m c n i = Cert.ReferenceIdeal.Whole.y m' 0 (at2 c n i) := by
  rw [acc3_eq]
  unfold prod Cert.ReferenceIdeal.Whole.y
  refine Fin.sum_mul_add_congr (S := 4) (n := 1024) (fun p b hl => ?_) (by decide)
  exact congrArg₂ (· * ·) (xblk_at h p c (i 0) b) (wblk_at h c p n b (i 1))

/-- Every entry of the whole product is in some device's block. -/
theorem at2_onto (j : S4096x8192.Idx) : ∃ c n i, j = at2 c n i := by
  have h0 : (j 0).val < 4096 := (j 0).isLt
  have h1 : (j 1).val < 8192 := (j 1).isLt
  refine ⟨⟨(j 0).val / 1024, by omega⟩, ⟨(j 1).val / 2048, by omega⟩,
    ix2 ⟨(j 0).val % 1024, by omega⟩ ⟨(j 1).val % 2048, by omega⟩, funext fun s => Fin.ext ?_⟩
  match s with
  | 0 => show (j 0).val = (j 0).val / 1024 * 1024 + (j 0).val % 1024; omega
  | 1 => show (j 1).val = 2048 * ((j 1).val / 2048) + (j 1).val % 2048; omega

/-- So every device finds the largest magnitude of the whole product. -/
theorem gmax_at (h : Dealt m m') (c : Dev nD) : gmax m c = Cert.ReferenceIdeal.Whole.amax m' 0 := by
  refine eq_of_forall_ge_iff fun B => ?_
  rw [gmax_le, Cert.ReferenceIdeal.Whole.amax_le]
  constructor
  · intro H j
    obtain ⟨p, n, i, rfl⟩ := at2_onto j
    have := H p n i
    rwa [acc3_at h] at this
  · intro H p n i
    rw [acc3_at h]
    exact H _

/-- And its result is its rows of the whole result. -/
theorem result_at (h : Dealt m m') (c : Dev nD) :
    beside (outq m c) = Layout.block ⟨2, ![1024, 8192]⟩ ⟨2, ![4096, 8192]⟩ 0 4 c (Cert.ReferenceIdeal.Whole.out m' 0) := by
  funext j
  have e : outq m c (besideN j) (besideX j) = Cert.ReferenceIdeal.Whole.out m' 0 (at2 c (besideN j) (besideX j)) := by
    rw [outq_eq, gmax_at h, acc3_at h]
    unfold Cert.ReferenceIdeal.Whole.out
    with_reducible rfl
  refine e.trans (congrArg (Cert.ReferenceIdeal.Whole.out m' 0) (funext fun s => Fin.ext ?_))
  match s with
  | 0 => exact congrArg (c.val * 1024 + ·) (beside_row j).symm
  | 1 => exact (beside_col j).symm

end Cert.Glue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Glue
public import Idealize.ShloMosaic.Adequacy
public import Idealize.ShloMosaic.Init

@[expose] public section

noncomputable section

namespace Cert.Proof

open Idealize.ShloMosaic Idealize.SL.Sem Cert.Kernel

/-- The two printings name the same table of bodies at machine floats. -/
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So they name the same table with the pipelines added. -/
theorem tables_same : Cert.Kernel.defs (F := Bits) = Cert.KernelIdeal.defs (F := Bits) :=
  congrArg (Pipeline.defs Cert.KernelIdeal.pcfgs) bodies_same

/-- The kernel at machine floats ends, at rest, with its two arguments as they were. -/
theorem frame_kernel : Cert.quiescent_Kernel := fun m ρ _ => by
  have h := Cert.KernelIdeal.Run.run_kept (F := Bits) m ρ
  rw [← tables_same] at h
  exact h

/-- The same over extended reals. -/
theorem frame_ideal : Cert.quiescent_KernelIdeal := fun m ρ _ => Cert.KernelIdeal.Run.run_kept (F := Ideal) m ρ

/-- Over extended reals each device ends with its rows of the reference's result. -/
theorem same_result : Cert.algebraic_KernelIdeal_ReferenceIdeal := fun m ρ m' ρ' _ h =>
  ⟨Cert.ReferenceIdeal.Whole.out m' 0,
    (θ_run (Cert.KernelIdeal.defs (F := Ideal)) _ _).mono
      (fun _ hr c => ⟨(hr.1 c).1.trans (Cert.Glue.result_at h c), (hr.1 c).2⟩) (Cert.KernelIdeal.Run.run_main (F := Ideal) m ρ),
    (θ_run (Cert.ReferenceIdeal.defs (F := Ideal)) _ _).mono
      (fun _ hr => ⟨(hr 0).1.trans (Cert.ReferenceIdeal.Whole.out_final m' 0), (hr 0).2⟩) (Cert.ReferenceIdeal.Value.run_blocks (F := Ideal) m' ρ')⟩

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, same_result⟩

end Cert.Proof

end
